-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_n" .f32 0x38D1B717#32 ((1 / 10000 : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S_ : Shape := ⟨0, ![]⟩

class Facts : Prop where
  bcast_S_S1x10000x128 : S_.BroadcastsInDim S1x10000x128 (![] : Fin 0 → Fin S1x10000x128.rank)
  bcast_S_S1x10000x10000 : S_.BroadcastsInDim S1x10000x10000 (![] : Fin 0 → Fin S1x10000x10000.rank)
  bcast_S_S128x128 : S_.BroadcastsInDim S128x128 (![] : Fin 0 → Fin S128x128.rank)
  bcast_S_S128 : S_.BroadcastsInDim S128 (![] : Fin 0 → Fin S128.rank)

variable [Facts]

def fn {F : FTy → Type} [FloatOps F] (main_arg0 : FVec F S1x10000x128 .f32) (main_arg1 : FVec F S1x10000x10000 .f32) (main_arg2 : FVec F S128x128 .f32) (main_arg3 : FVec F S128 .f32) (main_arg4 : FVec F S_ .f32) (main_arg5 : FVec F S128x128 .f32) (main_arg6 : FVec F S128 .f32) : IVec S1x10000x128 1 × IVec S1x10000x10000 1 × IVec S128x128 1 × IVec S128 1 × IVec S_ 1 × IVec S128x128 1 :=
  let main_v0 : FVec F S1x10000x128 .f32 := Host.absf main_arg0
  let main_cst : FVec F S_ .f32 := constant S_ .f32 0x7F800000#32
  let main_v1 : FVec F S1x10000x128 .f32 := broadcastInDim S1x10000x128 ![] bcast_S_S1x10000x128 main_cst
  let main_v2 : IVec S1x10000x128 1 := cmpf .olt main_v0 main_v1
  let main_v3 : FVec F S1x10000x10000 .f32 := Host.absf main_arg1
  let main_cst_0 : FVec F S_ .f32 := constant S_ .f32 0x7F800000#32
  let main_v4 : FVec F S1x10000x10000 .f32 := broadcastInDim S1x10000x10000 ![] bcast_S_S1x10000x10000 main_cst_0
  let main_v5 : IVec S1x10000x10000 1 := cmpf .olt main_v3 main_v4
  let main_v6 : FVec F S128x128 .f32 := Host.absf main_arg2
  let main_cst_1 : FVec F S_ .f32 := constant S_ .f32 0x7F800000#32
  let main_v7 : FVec F S128x128 .f32 := broadcastInDim S128x128 ![] bcast_S_S128x128 main_cst_1
  let main_v8 : IVec S128x128 1 := cmpf .olt main_v6 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_v12 : FVec F S_ .f32 := Host.absf main_arg4
  let main_cst_3 : FVec F S_ .f32 := constant S_ .f32 0x7F800000#32
  let main_v13 : IVec S_ 1 := cmpf .olt main_v12 main_cst_3
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  (main_v2, main_v5, main_v8, main_v11, main_v13, main_v16)
-- ==== Kernel.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S_ : Shape := ⟨0, ![]⟩
abbrev S10000x128 : Shape := ⟨2, ![10000, 128]⟩
abbrev S10000x10000 : Shape := ⟨2, ![10000, 10000]⟩
abbrev S1x128 : Shape := ⟨2, ![1, 128]⟩
abbrev S1x1 : Shape := ⟨2, ![1, 1]⟩
abbrev S25x400x10000 : Shape := ⟨3, ![25, 400, 10000]⟩
abbrev S400x10000 : Shape := ⟨2, ![400, 10000]⟩
abbrev S1x400x10000 : Shape := ⟨3, ![1, 400, 10000]⟩
abbrev S400x128 : Shape := ⟨2, ![400, 128]⟩
abbrev S10x1000x10000 : Shape := ⟨3, ![10, 1000, 10000]⟩
abbrev S1x1000x10000 : Shape := ⟨3, ![1, 1000, 10000]⟩
abbrev S1000x128 : Shape := ⟨2, ![1000, 128]⟩
abbrev S1000x10000 : Shape := ⟨2, ![1000, 10000]⟩

abbrev nBuf : Space → Nat
  | .hbm => 21
  | .vmem => 22
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S128x128, .f32⟩
  | .hbm, ⟨6, _⟩ => ⟨S128, .f32⟩
  | .hbm, ⟨7, _⟩ => ⟨S10000x128, .f32⟩
  | .hbm, ⟨8, _⟩ => ⟨S10000x10000, .f32⟩
  | .hbm, ⟨9, _⟩ => ⟨S128x128, .f32⟩
  | .hbm, ⟨10, _⟩ => ⟨S128x128, .f32⟩
  | .hbm, ⟨11, _⟩ => ⟨S1x128, .f32⟩
  | .hbm, ⟨12, _⟩ => ⟨S1x128, .f32⟩
  | .hbm, ⟨13, _⟩ => ⟨S1x1, .f32⟩
  | .hbm, ⟨14, _⟩ => ⟨S10000x128, .fp8e4m3⟩
  | .hbm, ⟨15, _⟩ => ⟨S25x400x10000, .fp8e4m3⟩
  | .hbm, ⟨16, _⟩ => ⟨S1x128, .f32⟩
  | .hbm, ⟨17, _⟩ => ⟨S10x1000x10000, .fp8e4m3⟩
  | .hbm, ⟨18, _⟩ => ⟨S10000x128, .f32⟩
  | .hbm, ⟨19, _⟩ => ⟨S1x128, .f32⟩
  | .hbm, ⟨20, _⟩ => ⟨S1x10000x128, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x128, .f32⟩
  | .local _ .vmem, ⟨4, _⟩ => ⟨S1x128, .f32⟩
  | .local _ .vmem, ⟨5, _⟩ => ⟨S1x1, .f32⟩
  | .local _ .vmem, ⟨6, _⟩ => ⟨S128x128, .f32⟩
  | .local _ .vmem, ⟨7, _⟩ => ⟨S10000x128, .fp8e4m3⟩
  | .local _ .vmem, ⟨8, _⟩ => ⟨S1x400x10000, .fp8e4m3⟩
  | .local _ .vmem, ⟨9, _⟩ => ⟨S1x400x10000, .fp8e4m3⟩
  | .local _ .vmem, ⟨10, _⟩ => ⟨S1x128, .f32⟩
  | .local _ .vmem, ⟨11, _⟩ => ⟨S10000x128, .f32⟩
  | .local _ .vmem, ⟨12, _⟩ => ⟨S10000x128, .f32⟩
  | .local _ .vmem, ⟨13, _⟩ => ⟨S1x1000x10000, .fp8e4m3⟩
  | .local _ .vmem, ⟨14, _⟩ => ⟨S1x1000x10000, .fp8e4m3⟩
  | .local _ .vmem, ⟨15, _⟩ => ⟨S10000x128, .fp8e4m3⟩
  | .local _ .vmem, ⟨16, _⟩ => ⟨S1x128, .f32⟩
  | .local _ .vmem, ⟨17, _⟩ => ⟨S1x128, .f32⟩
  | .local _ .vmem, ⟨18, _⟩ => ⟨S1000x128, .f32⟩
  | .local _ .vmem, ⟨19, _⟩ => ⟨S1000x128, .f32⟩
  | .local _ .vmem, ⟨20, _⟩ => ⟨S1x128, .f32⟩
  | .local _ .vmem, ⟨21, _⟩ => ⟨S1x128, .f32⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v10 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_scratch0 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v18 : BitVec 32 := Scalar.muli arg0 c400_i32
  let v19 : Index := Scalar.indexCast v18
  let c0_9 : Index := 0#32
  ![v19.toNat, 0]
def k0_cond2 (i : grid0.Coords) : BitVec 1 :=
  let arg0 : BitVec 32 := BitVec.ofNat 32 (i 0).val
  let c24_i32 : BitVec 32 := 24#32
  let v27 : BitVec 1 := Scalar.cmpi .eq arg0 c24_i32
  let v28 : BitVec 32 := Scalar.extui v27
  let c0_i32_13 : BitVec 32 := 0#32
  let v29 : BitVec 1 := Scalar.cmpi .ne v28 c0_i32_13
  v29

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10000x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x400x10000 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_16 : BitVec 32 := 0#32
  let v26 : BitVec 1 := Scalar.cmpi .ne v25 c0_i32_16
  v26

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1000x10000 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .fp8e4m3 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]
-- ==== KernelIdeal.lean ====
variable {F : FTy → Type} [FloatOps F] [Named F]
def κ : String → Option EReal := fun
  | "inv_n" => some ((1 / 10000 : ℝ) : EReal)
  | _ => none
-- ==== ReferenceIdeal.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S_ : Shape := ⟨0, ![]⟩
abbrev S10000x10000 : Shape := ⟨2, ![10000, 10000]⟩
abbrev S10000x128 : Shape := ⟨2, ![10000, 128]⟩
abbrev S1x1x128 : Shape := ⟨3, ![1, 1, 128]⟩
abbrev S1x128 : Shape := ⟨2, ![1, 128]⟩

abbrev nBuf : Space → Nat
  | .hbm => 44
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S1x10000x10000, .f32⟩
  | .hbm, ⟨2, _⟩ => ⟨S128x128, .f32⟩
  | .hbm, ⟨3, _⟩ => ⟨S128, .f32⟩
  | .hbm, ⟨4, _⟩ => ⟨S_, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x10000x128, .f32⟩
  | .hbm, ⟨9, _⟩ => ⟨S10000x10000, .f32⟩
  | .hbm, ⟨10, _⟩ => ⟨S10000x128, .f32⟩
  | .hbm, ⟨11, _⟩ => ⟨S10000x128, .f32⟩
  | .hbm, ⟨12, _⟩ => ⟨S1x10000x128, .f32⟩
  | .hbm, ⟨13, _⟩ => ⟨S1x1x128, .f32⟩
  | .hbm, ⟨14, _⟩ => ⟨S1x10000x128, .f32⟩
  | .hbm, ⟨15, _⟩ => ⟨S1x10000x128, .f32⟩
  | .hbm, ⟨16, _⟩ => ⟨S_, .f32⟩
  | .hbm, ⟨17, _⟩ => ⟨S1x10000x128, .f32⟩
  | .hbm, ⟨18, _⟩ => ⟨S1x10000x128, .i1⟩
  | .hbm, ⟨19, _⟩ => ⟨S1x10000x128, .f32⟩
  | .hbm, ⟨20, _⟩ => ⟨S1x10000x128, .f32⟩
  | .hbm, ⟨21, _⟩ => ⟨S1x10000x128, .f32⟩
  | .hbm, ⟨22, _⟩ => ⟨S128x128, .f32⟩
  | .hbm, ⟨23, _⟩ => ⟨S1x10000x128, .f32⟩
  | .hbm, ⟨24, _⟩ => ⟨S10000x10000, .f32⟩
  | .hbm, ⟨25, _⟩ => ⟨S10000x128, .f32⟩
  | .hbm, ⟨26, _⟩ => ⟨S10000x128, .f32⟩
  | .hbm, ⟨27, _⟩ => ⟨S1x10000x128, .f32⟩
  | .hbm, ⟨28, _⟩ => ⟨S1x1x128, .f32⟩
  | .hbm, ⟨29, _⟩ => ⟨S1x10000x128, .f32⟩
  | .hbm, ⟨30, _⟩ => ⟨S1x10000x128, .f32⟩
  | .hbm, ⟨31, _⟩ => ⟨S_, .f32⟩
  | .hbm, ⟨32, _⟩ => ⟨S1x128, .f32⟩
  | .hbm, ⟨33, _⟩ => ⟨S_, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S_, .f32⟩
  | .hbm, ⟨39, _⟩ => ⟨S1x128, .f32⟩
  | .hbm, ⟨40, _⟩ => ⟨S1x128, .f32⟩
  | .hbm, ⟨41, _⟩ => ⟨S_, .f32⟩
  | .hbm, ⟨42, _⟩ => ⟨S1x128, .f32⟩
  | .hbm, ⟨43, _⟩ => ⟨S1x128, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Proof.Body.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Tactic
public import Idealize.ShloMosaic.Lib.Pipeline.FrameBody
public import Idealize.ShloMosaic.Lib.Pipeline.Value
public import Idealize.ShloMosaic.Lib.WritesUnit

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The user algebra of the certificate: the pipeline library's own. -/
abbrev UU : Type := UR sig nD τ

local notation "𝕄" => MT nD τ sig Unit (Elt F) ℕ UU ℕ

/-- Memref `M`'s buffer on core `c` held whole, reading `X`. -/
abbrev hld (c : Dev nD) {sp : Space} {S : Shape} {e : EltTy} (M : Memref sig .tc sp S e) (X : S.Idx → Elt F e) : sProp 𝕄 :=
  iprop(∃ f : Buf (Elt F) (M.view.loc (c : Thread nD τ)), ⌜M.view.read (Elt F) f = X⌝ ∗ (M.view.loc (c : Thread nD τ) ↦{fullShare} f))

/-- Core `c` owns memref `M` whole, at contents `X`. -/
abbrev own (c : Dev nD) {sp : Space} {S : Shape} {e : EltTy} (M : Memref sig .tc sp S e) (X : S.Idx → Elt F e) : sProp 𝕄 :=
  owns (c : Thread nD τ) M fullShare X

/-- A whole memref owned at contents `X` is its buffer held whole, reading `X`. -/
theorem owns_hld (c : Dev nD) {sp : Space} {S : Shape} {e : EltTy} (M : Memref sig .tc sp S e) (hM : M.IsWhole) (X : S.Idx → Elt F e) :
    own c M X = hld c M X := by
  obtain ⟨b, hsp, hsh, he, h⟩ := hM
  subst hsp hsh he
  cases h
  unfold own owns hld
  simp only [Memref.view_whole, View.set_whole]

/-- A load of all of a memref's elements reads what the memref reads. -/
theorem load_whole {sp : Space} {S : Shape} {e : EltTy} (v : View sig .tc sp S e) {off : Fin S.rank → ℕ} (h : off = fun _ => 0)
    (inb : ∀ a, off a + S.size a ≤ S.size a) (f : v.ty.Contents (Elt F)) :
    v.readAt (Elt F) (Rect.unit off S.size inb).toLoadRect f = v.read (Elt F) f := by
  rw [View.readAt_eq_ld]; exact View.ld_unit_zero h inb _

/-- After a store of all of a memref's elements the memref reads what was stored. -/
theorem store_whole {sp : Space} {S : Shape} {e : EltTy} (v : View sig .tc sp S e) {off : Fin S.rank → ℕ} (h : off = fun _ => 0)
    (inb : ∀ a, off a + S.size a ≤ S.size a) (f : v.ty.Contents (Elt F)) (w : S.Idx → Elt F e) :
    v.read (Elt F) (v.writes (Elt F) f [(⟨Rect.unit off S.size inb, w⟩ : View.Piece (Elt F) S e)]) = w := by
  rw [View.read_writes_eq_canon _ _ _ fun y => ⟨_, List.mem_singleton_self _, View.mem_set_unit_zero h inb y⟩]
  exact View.canon_unit_zero h inb w

/-- A rank-2 block at the origin starts at zero on both axes, -/
theorem z2 : (![0, 0] : Fin 2 → ℕ) = fun _ => 0 := by decide
/-- a rank-3 one on all three. -/
theorem z3 : (![0, 0, 0] : Fin 3 → ℕ) = fun _ => 0 := by decide

/-- The condition of the second kernel's first-point branch. -/
abbrev first1 (i : grid1.Coords) : Prop :=
  Scalar.cmpi .ne (Scalar.extui (Scalar.cmpi .eq (BitVec.ofNat 32 (i 0).val) 0#32) : BitVec 32) 0#32 = 1#1

/-- The second kernel's body at a point: what it leaves in its windows' buffers and its scratch row. -/
theorem run1 (c : Dev nD) (i : grid1.Coords)
    (M1 : Memref sig .tc .vmem S1x1000x10000 .fp8e4m3) (w1 : M1.IsWhole) (M2 : Memref sig .tc .vmem S10000x128 .fp8e4m3) (w2 : M2.IsWhole)
    (M3 : Memref sig .tc .vmem S1x128 .f32) (w3 : M3.IsWhole) (M4 : Memref sig .tc .vmem S1x128 .f32) (w4 : M4.IsWhole)
    (M5 : Memref sig .tc .vmem S1000x128 .f32) (w5 : M5.IsWhole) (M6 : Memref sig .tc .vmem S1x128 .f32) (w6 : M6.IsWhole)
    (M7 : Memref sig .tc .vmem S1x128 .f32) (w7 : M7.IsWhole)
    (X1 : S1x1000x10000.Idx → Elt F .fp8e4m3) (X2 : S10000x128.Idx → Elt F .fp8e4m3) (X3 : S1x128.Idx → Elt F .f32) (X4 : S1x128.Idx → Elt F .f32)
    (X5 : S1000x128.Idx → Elt F .f32) (X6 : S1x128.Idx → Elt F .f32) (X7 : S1x128.Idx → Elt F .f32)
    (E : Set ℕ) (Q : PUnit → sProp 𝕄) :
    iprop(own c M1 X1 ∗ own c M2 X2 ∗ own c M3 X3 ∗ own c M4 X4 ∗ own c M5 X5 ∗ own c M6 X6 ∗ own c M7 X7
        ∗ (iprop(own c M1 X1 ∗ own c M2 X2 ∗ own c M3 X3 ∗ own c M4 X4 ∗ own c M5 (k1_pay1 X1 X2 X3 X4)
            ∗ own c M6 (if k1_cond2 i = 1#1 then k1_pay4 (k1_pay3 X1 X2 X3 X4 (if first1 i then k1_pay2 else X7)) else X6)
            ∗ own c M7 (k1_pay3 X1 X2 X3 X4 (if first1 i then k1_pay2 else X7))) -∗ Q ⟨⟩))
      ⊢ wp frame (wpE (defs₀ (F := F)) Variants.none c none) E (cc1__pass_b i M1 w1 M2 w2 M3 w3 M4 w4 M5 w5 M6 w6 M7 w7) Q := by
  simp only [owns_hld c M1 w1, owns_hld c M2 w2, owns_hld c M3 w3, owns_hld c M4 w4, owns_hld c M5 w5, owns_hld c M6 w6, owns_hld c M7 w7]
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, Hk⟩
  sl_unfold [cc1__pass_b]
  sl_exec
  sl_step
  have e7 : M7.view.read (Elt F) (if _ : run1.sl.v18 i = 1#1 then
        M7.view.writes (Elt F) f7 [⟨Rect.unit ![0, 0] S1x128.size inb_S1x128_S1x128_0_0, k1_pay2⟩] else f7) = if first1 i then k1_pay2 else X7 := by
    by_cases hc : first1 i
    · rw [dif_pos (show run1.sl.v18 i = 1#1 from hc), if_pos hc]; exact store_whole _ z2 _ _ _
    · rw [dif_neg (show ¬ run1.sl.v18 i = 1#1 from hc), if_neg hc]; exact h7
  iapply Hk
  isplitl [H1]; · iexists _; isplitr; swap; (· iexact H1); ipureintro; exact h1
  isplitl [H2]; · iexists _; isplitr; swap; (· iexact H2); ipureintro; exact h2
  isplitl [H3]; · iexists _; isplitr; swap; (· iexact H3); ipureintro; exact h3
  isplitl [H4]; · iexists _; isplitr; swap; (· iexact H4); ipureintro; exact h4
  have e : k1_pay3 (F := F) (View.readAt (Elt F) M1.view (Rect.unit ![0, 0, 0] S1x1000x10000.size inb_S1x1000x10000_S1x1000x10000_0_0_0).toLoadRect f1)
      (View.readAt (Elt F) M2.view (Rect.unit ![0, 0] S10000x128.size inb_S10000x128_S10000x128_0_0).toLoadRect f2)
      (View.readAt (Elt F) M3.view (Rect.unit ![0, 0] S1x128.size inb_S1x128_S1x128_0_0).toLoadRect f3)
      (View.readAt (Elt F) M4.view (Rect.unit ![0, 0] S1x128.size inb_S1x128_S1x128_0_0).toLoadRect f4)
      (run1.sl.v19 c i M7 f7) = k1_pay3 X1 X2 X3 X4 (if first1 i then k1_pay2 else X7) := by
    rw [load_whole _ z3, load_whole _ z2, load_whole _ z2, load_whole _ z2, h1, h2, h3, h4]
    congr 1
    exact (load_whole _ z2 _ _).trans e7
  isplitl [H5]
  · iexists _; isplitr; swap; (· iexact H5); ipureintro
    refine (store_whole _ z2 _ _ _).trans ?_
    rw [load_whole _ z3, load_whole _ z2, load_whole _ z2, load_whole _ z2, h1, h2, h3, h4]
  isplitl [H6]
  · iexists _; isplitr; swap; (· iexact H6); ipureintro
    by_cases hc : k1_cond2 i = 1#1
    · rw [dif_pos hc, if_pos hc]; refine (store_whole _ z2 _ _ _).trans (congrArg _ ?_)
      exact (load_whole _ z2 _ _).trans ((store_whole _ z2 _ _ _).trans e)
    · rw [dif_neg hc, if_neg hc]; exact h6
  iexists _; isplitr; swap; (· iexact H7); ipureintro
  exact (store_whole _ z2 _ _ _).trans e
/-- The condition of the first kernel's first-point branch. -/
abbrev first0 (i : grid0.Coords) : Prop :=
  Scalar.cmpi .ne (Scalar.extui (Scalar.cmpi .eq (BitVec.ofNat 32 (i 0).val) 0#32) : BitVec 32) 0#32 = 1#1

/-- The rows `[400 n, 400 n + 400)` replaced by `w`, the others left at `g`. -/
def putRows {α : Type} (n : ℕ) (w : S400x128.Idx → α) (g : S10000x128.Idx → α) : S10000x128.Idx → α := fun y =>
  if h : 400 * n ≤ (y (0 : Fin 2)).val ∧ (y (0 : Fin 2)).val < 400 * n + 400 then
    w (Rect.unitLocal (s := S10000x128) (off := ![400 * n, 0]) (size := S400x128.size) y (Rect.unit_rows_mem y rfl rfl h))
  else g y

/-- Storing a block of 400 rows puts those rows. -/
theorem store_rows (i : grid0.Coords) (v : View sig .tc .vmem S10000x128 .f32) (f : v.ty.Contents (Elt F)) (w : S400x128.Idx → Elt F .f32) :
    v.read (Elt F) (v.writes (Elt F) f [(⟨Rect.unit (k0_off1 i) S400x128.size (k0_off1_inb i), w⟩ : View.Piece (Elt F) S10000x128 .f32)])
      = putRows (i 0).val w (v.read (Elt F) f) := by
  funext y
  exact (View.read_writes_cons_rows v f (k0_off1_inb i) w [] y (k0_off1_eq i) (W := 400) rfl rfl)

set_option maxHeartbeats 1000000 in
/-- The first kernel's body at a point: what it leaves in its windows' buffers and its two scratches. -/
theorem run0 (c : Dev nD) (i : grid0.Coords)
    (M1 : Memref sig .tc .vmem S10000x128 .f32) (w1 : M1.IsWhole) (M2 : Memref sig .tc .vmem S400x10000 .f32) (w2 : M2.IsWhole)
    (M3 : Memref sig .tc .vmem S128x128 .f32) (w3 : M3.IsWhole) (M4 : Memref sig .tc .vmem S1x128 .f32) (w4 : M4.IsWhole)
    (M5 : Memref sig .tc .vmem S1x1 .f32) (w5 : M5.IsWhole) (M6 : Memref sig .tc .vmem S128x128 .f32) (w6 : M6.IsWhole)
    (M7 : Memref sig .tc .vmem S10000x128 .fp8e4m3) (w7 : M7.IsWhole) (M8 : Memref sig .tc .vmem S1x400x10000 .fp8e4m3) (w8 : M8.IsWhole)
    (M9 : Memref sig .tc .vmem S1x128 .f32) (w9 : M9.IsWhole) (M10 : Memref sig .tc .vmem S10000x128 .f32) (w10 : M10.IsWhole)
    (M11 : Memref sig .tc .vmem S10000x128 .f32) (w11 : M11.IsWhole)
    (X1 : S10000x128.Idx → Elt F .f32) (X2 : S400x10000.Idx → Elt F .f32) (X3 : S128x128.Idx → Elt F .f32)
    (X4 : S1x128.Idx → Elt F .f32) (X5 : S1x1.Idx → Elt F .f32) (X6 : S128x128.Idx → Elt F .f32)
    (X7 : S10000x128.Idx → Elt F .fp8e4m3) (X8 : S1x400x10000.Idx → Elt F .fp8e4m3) (X9 : S1x128.Idx → Elt F .f32)
    (X10 : S10000x128.Idx → Elt F .f32) (X11 : S10000x128.Idx → Elt F .f32)
    (Y : S10000x128.Idx → Elt F .f32) (hY : Y = if first0 i then k0_pay1 X1 X3 else X10)
    (Z : S10000x128.Idx → Elt F .f32) (hZ : Z = putRows (i 0).val (k0_pay3 X2 Y X4 X5) X11)
    (E : Set ℕ) (Q : PUnit → sProp 𝕄) :
    iprop(own c M1 X1 ∗ own c M2 X2 ∗ own c M3 X3 ∗ own c M4 X4 ∗ own c M5 X5 ∗ own c M6 X6 ∗ own c M7 X7 ∗ own c M8 X8 ∗ own c M9 X9
        ∗ own c M10 X10 ∗ own c M11 X11
        ∗ (iprop(own c M1 X1 ∗ own c M2 X2 ∗ own c M3 X3 ∗ own c M4 X4 ∗ own c M5 X5 ∗ own c M6 X6
            ∗ own c M7 (if k0_cond2 i = 1#1 then k0_pay7 Z X6 else X7) ∗ own c M8 (k0_pay4 X2)
            ∗ own c M9 (if k0_cond2 i = 1#1 then k0_pay6 Z X6 else X9)
            ∗ own c M10 Y ∗ own c M11 Z) -∗ Q ⟨⟩))
      ⊢ wp frame (wpE (defs₀ (F := F)) Variants.none c none) E (cc0__pass_a i M1 w1 M2 w2 M3 w3 M4 w4 M5 w5 M6 w6 M7 w7 M8 w8 M9 w9 M10 w10 M11 w11) Q := by
  simp only [owns_hld c M1 w1, owns_hld c M2 w2, owns_hld c M3 w3, owns_hld c M4 w4, owns_hld c M5 w5, owns_hld c M6 w6, owns_hld c M7 w7,
    owns_hld c M8 w8, owns_hld c M9 w9, owns_hld c M10 w10, owns_hld c M11 w11]
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, Hk⟩
  sl_unfold [cc0__pass_a]
  sl_exec
  sl_step
  have e10 : M10.view.read (Elt F) (if _ : run0.sl.v2 i = 1#1 then
        M10.view.writes (Elt F) f10 [⟨Rect.unit ![0, 0] S10000x128.size inb_S10000x128_S10000x128_0_0, run0.sl.v37 c M1 M3 f1 f3⟩] else f10) = Y := by
    rw [hY]
    by_cases hc : first0 i
    · rw [dif_pos (show run0.sl.v2 i = 1#1 from hc), if_pos hc]; refine (store_whole _ z2 _ _ _).trans ?_
      exact congrArg₂ (k0_pay1 (F := F)) ((load_whole _ z2 _ _).trans h1) ((load_whole _ z2 _ _).trans h3)
    · rw [dif_neg (show ¬ run0.sl.v2 i = 1#1 from hc), if_neg hc]; exact h10
  have e11 : M11.view.read (Elt F) (M11.view.writes (Elt F) f11 (run0.sl.H11_1 c i M1 M2 M3 M4 M5 M10 f1 f2 f3 f4 f5 f10)) = Z := by
    rw [hZ]
    refine (store_rows i _ _ _).trans ?_
    rw [h11]
    refine congrArg (putRows (i 0).val · X11) (?_ : k0_pay3 (F := F) _ _ _ _ = _)
    rw [load_whole _ z2, load_whole _ z2, load_whole _ z2, h2, h4, h5]
    exact congrArg (k0_pay3 X2 · X4 X5) ((load_whole _ z2 _ _).trans e10)
  have l6 : M6.view.readAt (Elt F) (Rect.unit ![0, 0] S128x128.size inb_S128x128_S128x128_0_0).toLoadRect f6 = X6 := (load_whole _ z2 _ _).trans h6
  iapply Hk
  isplitl [H1]; · iexists _; isplitr; swap; (· iexact H1); ipureintro; exact h1
  isplitl [H2]; · iexists _; isplitr; swap; (· iexact H2); ipureintro; exact h2
  isplitl [H3]; · iexists _; isplitr; swap; (· iexact H3); ipureintro; exact h3
  isplitl [H4]; · iexists _; isplitr; swap; (· iexact H4); ipureintro; exact h4
  isplitl [H5]; · iexists _; isplitr; swap; (· iexact H5); ipureintro; exact h5
  isplitl [H6]; · iexists _; isplitr; swap; (· iexact H6); ipureintro; exact h6
  isplitl [H7]
  · iexists _; isplitr; swap; (· iexact H7); ipureintro
    by_cases hc : k0_cond2 i = 1#1
    · rw [dif_pos hc, if_pos hc]; refine (store_whole _ z2 _ _ _).trans ?_
      exact congrArg₂ (k0_pay7 (F := F)) ((load_whole _ z2 _ _).trans e11) l6
    · rw [dif_neg hc, if_neg hc]; exact h7
  isplitl [H8]
  · iexists _; isplitr; swap; (· iexact H8); ipureintro
    refine (store_whole _ z3 _ _ _).trans (congrArg (k0_pay4 (F := F)) ((load_whole _ z2 _ _).trans h2))
  isplitl [H9]
  · iexists _; isplitr; swap; (· iexact H9); ipureintro
    by_cases hc : k0_cond2 i = 1#1
    · rw [dif_pos hc, if_pos hc]; refine (store_whole _ z2 _ _ _).trans ?_
      exact congrArg₂ (k0_pay6 (F := F)) ((load_whole _ z2 _ _).trans e11) l6
    · rw [dif_neg hc, if_neg hc]; exact h9
  isplitl [H10]; · iexists _; isplitr; swap; (· iexact H10); ipureintro; exact e10
  iexists _; isplitr; swap; (· iexact H11); ipureintro; exact e11

end Cert.KernelIdeal.Hand
end
-- ==== Proof.Dat1.lean ====
module

public import proofs.«01_k».proof.Proof.Body

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ UU ℕ

/-- Reference `b` of core `c` whole at some contents. -/
abbrev anyAt (c : Dev nD) (b : Ref sig .tc) : sProp 𝕄 :=
  iprop(∃ f : Buf (Elt F) ((c : Thread nD τ).loc b), ((c : Thread nD τ).loc b) ↦{fullShare} f)

section R1

variable (V : Dev nD → Valuation τ sig (Elt F)) (c : Dev nD)

/-- The block of window `w` of the second kernel at point `t`, of the array's contents at entry. -/
abbrev blk1 (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The running column sums: what the scratch row holds before point `n`. -/
def acc1 : ℕ → S1x128.Idx → Elt F .f32
  | 0 => k1_pay2
  | n + 1 => if h : n < cfg1.N then k1_pay3 (blk1 V c 0 ⟨n, h⟩) (blk1 V c 1 ⟨n, h⟩) (blk1 V c 2 ⟨n, h⟩) (blk1 V c 3 ⟨n, h⟩) (acc1 n) else acc1 n

/-- A point adds its block's column sums. -/
theorem acc1_succ (t : Fin cfg1.N) : acc1 V c (t.val + 1)
    = k1_pay3 (blk1 V c 0 t) (blk1 V c 1 t) (blk1 V c 2 t) (blk1 V c 3 t) (acc1 V c t.val) := by
  rw [acc1, dif_pos t.isLt]

/-- The scratch row before point `n`: at the running sums, once the first point has run. -/
abbrev scr1 (n : ℕ) : sProp 𝕄 :=
  iprop(∃ f : Buf (Elt F) ((c : Thread nD τ).loc cc1_scratch0), ⌜n ≠ 0 → f = acc1 V c n⌝ ∗ (((c : Thread nD τ).loc cc1_scratch0) ↦{fullShare} f))

/-- The scoped buffers the second kernel does not touch. -/
abbrev rest1 : sProp 𝕄 :=
  iprop(anyAt (F := F) c cc0_stg0_0 ∗ anyAt (F := F) c cc0_stg1_0 ∗ anyAt (F := F) c cc0_stg1_1 ∗ anyAt (F := F) c cc0_stg2_0 ∗ anyAt (F := F) c cc0_stg3_0
    ∗ anyAt (F := F) c cc0_stg4_0 ∗ anyAt (F := F) c cc0_stg5_0 ∗ anyAt (F := F) c cc0_stg6_0 ∗ anyAt (F := F) c cc0_stg7_0 ∗ anyAt (F := F) c cc0_stg7_1
    ∗ anyAt (F := F) c cc0_stg8_0 ∗ anyAt (F := F) c cc0_scratch0 ∗ anyAt (F := F) c cc0_scratch1)

/-- The second kernel's invariant before point `n`. -/
def Phi1 (n : ℕ) : sProp 𝕄 := iprop(rest1 c ∗ scr1 V c n)

/-- The proof data of the second kernel, entered from valuation `V`. -/
def dat1 : Dat τ (Elt F) Unit ℕ UU ℕ cfg1 c where
  A w := V c (Proc.devRef .tc (Pipeline.arrRef spec1 w))
  after w t := match w with
    | ⟨0, _⟩ => blk1 V c 0 t
    | ⟨1, _⟩ => blk1 V c 1 t
    | ⟨2, _⟩ => blk1 V c 2 t
    | ⟨3, _⟩ => blk1 V c 3 t
    | ⟨4, _⟩ => k1_pay1 (blk1 V c 0 t) (blk1 V c 1 t) (blk1 V c 2 t) (blk1 V c 3 t)
    | ⟨5, _⟩ => k1_pay4 (acc1 V c (t.val + 1))
  Φ t := Phi1 V c t.val
  q _ := fullShare
  owed _ := 0

/-- Before each point, window 0's buffer holds the point's block. -/
theorem before1_0 (t : Fin cfg1.N) (d) : (dat1 V c).before 0 t d = blk1 V c 0 t :=
  Dat.before_in_eq_fetched (dat1 V c) 0 rfl (fun _ => rfl) (fun _ _ _ => rfl) (fun _ => rfl) t d
/-- Before each point, window 1's buffer holds the point's block. -/
theorem before1_1 (t : Fin cfg1.N) (d) : (dat1 V c).before 1 t d = blk1 V c 1 t :=
  Dat.before_in_eq_fetched (dat1 V c) 1 rfl (fun _ => rfl) (fun _ _ _ => rfl) (fun _ => rfl) t d
/-- Before each point, window 2's buffer holds the point's block. -/
theorem before1_2 (t : Fin cfg1.N) (d) : (dat1 V c).before 2 t d = blk1 V c 2 t :=
  Dat.before_in_eq_fetched (dat1 V c) 2 rfl (fun _ => rfl) (fun _ _ _ => rfl) (fun _ => rfl) t d
/-- Before each point, window 3's buffer holds the point's block. -/
theorem before1_3 (t : Fin cfg1.N) (d) : (dat1 V c).before 3 t d = blk1 V c 3 t :=
  Dat.before_in_eq_fetched (dat1 V c) 3 rfl (fun _ => rfl) (fun _ _ _ => rfl) (fun _ => rfl) t d

/-- The first point is point 0, -/
theorem first1_iff : ∀ t : Fin cfg1.N, first1 (cfg1.grid.coords t) ↔ t.val = 0 := by decide +kernel
/-- and the last is point 9. -/
theorem cond1_iff : ∀ t : Fin cfg1.N, k1_cond2 (cfg1.grid.coords t) = 1#1 ↔ t.val % 10 = 9 := by decide +kernel

/-- The second kernel's body keeps its invariant at every point. -/
theorem body_obligation1 : BodyObligation (dat1 V c) (defs₀ (F := F)) Variants.none () Set.univ := fun t => by
  rw [bigSep_W1, bigSep_W1]
  rw [show (dat1 V c).Φ t.castSucc = Phi1 V c t.val from rfl, show (dat1 V c).Φ t.succ = Phi1 V c (t.val + 1) from rfl,
    show (dat1 V c).owesAt () t.succ = (dat1 V c).owesAt () t.castSucc from rfl]
  unfold Phi1
  iintro ⟨⟨HR, ⟨%f, %hf, HS⟩⟩, Ho, ⟨%d0, H0⟩, ⟨%d1, H1⟩, ⟨%d2, H2⟩, ⟨%d3, H3⟩, ⟨%d4, H4⟩, ⟨%d5, H5⟩⟩
  rw [before1_0, before1_1, before1_2, before1_3]
  have hacc : k1_pay3 (blk1 V c 0 t) (blk1 V c 1 t) (blk1 V c 2 t) (blk1 V c 3 t) (if first1 (grid1.coords t) then k1_pay2 else f) = acc1 V c (t.val + 1) := by
    rw [acc1_succ]
    congr 1
    by_cases h : first1 (grid1.coords t)
    · rw [if_pos h, (first1_iff t).mp h]; rfl
    · rw [if_neg h]; exact hf fun h0 => h ((first1_iff t).mpr h0)
  iapply (run1 c (grid1.coords t) (win1_0.stage (cfg1.slots t 0)) (hstage1_0 _) (win1_1.stage (cfg1.slots t 1)) (hstage1_1 _)
    (win1_2.stage (cfg1.slots t 2)) (hstage1_2 _) (win1_3.stage (cfg1.slots t 3)) (hstage1_3 _) (win1_4.stage (cfg1.slots t 4)) (hstage1_4 _)
    (win1_5.stage (cfg1.slots t 5)) (hstage1_5 _) (Memref.whole cc1_scratch0) (Memref.isWhole_whole _)
    (blk1 V c 0 t) (blk1 V c 1 t) (blk1 V c 2 t) (blk1 V c 3 t) ((dat1 V c).before 4 t d4) ((dat1 V c).before 5 t d5) f Set.univ _)
  rw [hacc]
  isplitl [H0]; · iexact H0
  isplitl [H1]; · iexact H1
  isplitl [H2]; · iexact H2
  isplitl [H3]; · iexact H3
  isplitl [H4]; · iexact H4
  isplitl [H5]; · iexact H5
  isplitl [HS]; · unfold own; rw [owns_whole]; iexact HS
  iintro ⟨H0, H1, H2, H3, H4, H5, HS⟩
  isplitl [HR HS]
  · isplitl [HR]; · iexact HR
    iexists acc1 V c (t.val + 1)
    isplitr; · ipureintro; exact fun _ => rfl
    unfold own; rw [owns_whole]; exact .rfl
  isplitl [Ho]; · iexact Ho
  isplitl [H0]; · iexact H0
  isplitl [H1]; · iexact H1
  isplitl [H2]; · iexact H2
  isplitl [H3]; · iexact H3
  isplitl [H4]; · iexact H4
  by_cases hc : k1_cond2 (grid1.coords t) = 1#1
  · rw [if_pos hc, show cfg1.idle 5 (cfg1.grid.coords t) = false from by show (!(k1_cond2 (grid1.coords t) == 1#1)) = false; rw [hc]; rfl]
    iexact H5
  · rw [if_neg hc, show cfg1.idle 5 (cfg1.grid.coords t) = true from by
        show (!(k1_cond2 (grid1.coords t) == 1#1)) = true; simp only [Bool.not_eq_true', beq_eq_false_iff_ne]; exact hc,
      show (cfg1.win 5).flush t = false from Bool.eq_false_iff.mpr fun h => hc ((cond1_iff t).mpr ((flush1_5 t).mp h))]
    iexists d5; iexact H5

end R1

end Cert.KernelIdeal.Hand
end
-- ==== Proof.Dat0.lean ====
module

public import proofs.«01_k».proof.Proof.Dat1

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ UU ℕ

section R0

variable (V : Dev nD → Valuation τ sig (Elt F)) (c : Dev nD)

/-- The block of window `w` of the first kernel at point `t`, of the array's contents at entry. -/
abbrev blk0 (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The first point. -/
abbrev p0 : Fin cfg0.N := ⟨0, by rw [show cfg0.N = 25 from N_0]; decide⟩

/-- The point whose rows hold row `n`. -/
abbrev pt0 (y : S10000x128.Idx) : Fin cfg0.N :=
  ⟨(y (0 : Fin 2)).val / 400, by rw [show cfg0.N = 25 from N_0]; have : (y (0 : Fin 2)).val < 10000 := (y (0 : Fin 2)).isLt; omega⟩

/-- The first layer's products `seq @ W0.T`, as the first point leaves them in its scratch. -/
abbrev fts0 : S10000x128.Idx → Elt F .f32 := k0_pay1 (blk0 V c 0 p0) (blk0 V c 2 p0)

/-- Row `y` lies in its own block of 400 rows. -/
theorem own_rows (y : S10000x128.Idx) :
    400 * ((y (0 : Fin 2)).val / 400) ≤ (y (0 : Fin 2)).val ∧ (y (0 : Fin 2)).val < 400 * ((y (0 : Fin 2)).val / 400) + 400 := by omega

/-- Row `y` of the hidden layer: computed at the point whose rows hold it. -/
def hid (y : S10000x128.Idx) : Elt F .f32 :=
  k0_pay3 (blk0 V c 1 (pt0 y)) (fts0 V c) (blk0 V c 3 p0) (blk0 V c 4 p0)
    (Rect.unitLocal (s := S10000x128) (off := ![400 * ((y (0 : Fin 2)).val / 400), 0]) (size := S400x128.size) y
      (Rect.unit_rows_mem y rfl rfl (own_rows y)))

/-- Putting point `t`'s rows extends the rows known by its own. -/
theorem putRows_hid (t : Fin cfg0.N) (g : S10000x128.Idx → Elt F .f32) (hg : ∀ y, (y (0 : Fin 2)).val < 400 * t.val → g y = hid V c y)
    (y : S10000x128.Idx) (hy : (y (0 : Fin 2)).val < 400 * (t.val + 1)) :
    putRows t.val (k0_pay3 (blk0 V c 1 t) (fts0 V c) (blk0 V c 3 p0) (blk0 V c 4 p0)) g y = hid V c y := by
  unfold putRows
  split
  · next h =>
    have ht : t = pt0 y := Fin.ext (by show t.val = (y (0 : Fin 2)).val / 400; omega)
    subst ht
    rfl
  · next h => exact hg y (by omega)

/-- The first kernel's first scratch before point `n`. -/
abbrev scrA (n : ℕ) : sProp 𝕄 :=
  iprop(∃ f : Buf (Elt F) ((c : Thread nD τ).loc cc0_scratch0), ⌜n ≠ 0 → f = fts0 V c⌝ ∗ (((c : Thread nD τ).loc cc0_scratch0) ↦{fullShare} f))

/-- The first kernel's second scratch before point `n`: the hidden layer's rows below `400 n`. -/
abbrev scrB (n : ℕ) : sProp 𝕄 :=
  iprop(∃ f : Buf (Elt F) ((c : Thread nD τ).loc cc0_scratch1),
    ⌜∀ y : S10000x128.Idx, (y (0 : Fin 2)).val < 400 * n → f y = hid V c y⌝ ∗ (((c : Thread nD τ).loc cc0_scratch1) ↦{fullShare} f))

/-- The scoped buffers the first kernel does not touch. -/
abbrev rest0 : sProp 𝕄 :=
  iprop(anyAt (F := F) c cc1_stg0_0 ∗ anyAt (F := F) c cc1_stg0_1 ∗ anyAt (F := F) c cc1_stg1_0 ∗ anyAt (F := F) c cc1_stg2_0 ∗ anyAt (F := F) c cc1_stg3_0 ∗ anyAt (F := F) c cc1_stg4_0 ∗ anyAt (F := F) c cc1_stg4_1 ∗ anyAt (F := F) c cc1_stg5_0 ∗ anyAt (F := F) c cc1_scratch0)

/-- The first kernel's invariant before point `n`. -/
def Phi0 (n : ℕ) : sProp 𝕄 := iprop(scrA V c n ∗ scrB V c n ∗ rest0 c)

/-- The proof data of the first kernel, entered from valuation `V`. -/
def dat0 : Dat τ (Elt F) Unit ℕ UU ℕ cfg0 c where
  A w := V c (Proc.devRef .tc (Pipeline.arrRef spec0 w))
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => k0_pay7 (hid V c) (blk0 V c 5 p0)
    | ⟨7, _⟩ => k0_pay4 (blk0 V c 1 t)
    | ⟨8, _⟩ => k0_pay6 (hid V c) (blk0 V c 5 p0)
  Φ t := Phi0 V c t.val
  q _ := fullShare
  owed _ := 0

/-- Before each point, window 0's buffer holds the point's block. -/
theorem before0_0 (t : Fin cfg0.N) (d) : (dat0 V c).before 0 t d = blk0 V c 0 t :=
  Dat.before_in_eq_fetched (dat0 V c) 0 rfl (fun _ => rfl) (fun _ _ _ => rfl) (fun _ => rfl) t d
/-- Before each point, window 1's buffer holds the point's block. -/
theorem before0_1 (t : Fin cfg0.N) (d) : (dat0 V c).before 1 t d = blk0 V c 1 t :=
  Dat.before_in_eq_fetched (dat0 V c) 1 rfl (fun _ => rfl) (fun _ _ _ => rfl) (fun _ => rfl) t d
/-- Before each point, window 2's buffer holds the point's block. -/
theorem before0_2 (t : Fin cfg0.N) (d) : (dat0 V c).before 2 t d = blk0 V c 2 t :=
  Dat.before_in_eq_fetched (dat0 V c) 2 rfl (fun _ => rfl) (fun _ _ _ => rfl) (fun _ => rfl) t d
/-- Before each point, window 3's buffer holds the point's block. -/
theorem before0_3 (t : Fin cfg0.N) (d) : (dat0 V c).before 3 t d = blk0 V c 3 t :=
  Dat.before_in_eq_fetched (dat0 V c) 3 rfl (fun _ => rfl) (fun _ _ _ => rfl) (fun _ => rfl) t d
/-- Before each point, window 4's buffer holds the point's block. -/
theorem before0_4 (t : Fin cfg0.N) (d) : (dat0 V c).before 4 t d = blk0 V c 4 t :=
  Dat.before_in_eq_fetched (dat0 V c) 4 rfl (fun _ => rfl) (fun _ _ _ => rfl) (fun _ => rfl) t d
/-- Before each point, window 5's buffer holds the point's block. -/
theorem before0_5 (t : Fin cfg0.N) (d) : (dat0 V c).before 5 t d = blk0 V c 5 t :=
  Dat.before_in_eq_fetched (dat0 V c) 5 rfl (fun _ => rfl) (fun _ _ _ => rfl) (fun _ => rfl) t d

/-- The first point is point 0, -/
theorem first0_iff : ∀ t : Fin cfg0.N, first0 (cfg0.grid.coords t) ↔ t.val = 0 := by decide +kernel
/-- the last is point 24, -/
theorem cond0_iff : ∀ t : Fin cfg0.N, k0_cond2 (cfg0.grid.coords t) = 1#1 ↔ t.val % 25 = 24 := by decide +kernel
/-- and a point's one coordinate is its number. -/
theorem coords0 : ∀ t : Fin cfg0.N, (cfg0.grid.coords t (0 : Fin 1)).val = t.val := by decide +kernel

set_option maxHeartbeats 1000000 in
/-- The first kernel's body keeps its invariant at every point. -/
theorem body_obligation0 : BodyObligation (dat0 V c) (defs₀ (F := F)) Variants.none () Set.univ := fun t => by
  rw [bigSep_W0, bigSep_W0]
  rw [show (dat0 V c).Φ t.castSucc = Phi0 V c t.val from rfl, show (dat0 V c).Φ t.succ = Phi0 V c (t.val + 1) from rfl,
    show (dat0 V c).owesAt () t.succ = (dat0 V c).owesAt () t.castSucc from rfl]
  unfold Phi0
  iintro ⟨⟨⟨%f, %hf, HA⟩, ⟨%g, %hg, HB⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0_0, before0_1, before0_2, before0_3, before0_4, before0_5]
  have hY : fts0 V c = if first0 (grid0.coords t) then k0_pay1 (blk0 V c 0 t) (blk0 V c 2 t) else f := by
    by_cases h : first0 (grid0.coords t)
    · rw [if_pos h]; rfl
    · rw [if_neg h]; exact (hf fun h0 => h ((first0_iff t).mpr h0)).symm
  have hZ := putRows_hid V c t g hg
  have hlast : k0_cond2 (grid0.coords t) = 1#1 →
      putRows t.val (k0_pay3 (blk0 V c 1 t) (fts0 V c) (blk0 V c 3 p0) (blk0 V c 4 p0)) g = hid V c := fun hc => funext fun y => hZ y (by
    have h1 := (cond0_iff t).mp hc
    have h2 : (y (0 : Fin 2)).val < 10000 := (y (0 : Fin 2)).isLt
    omega)
  iapply (run0 c (grid0.coords t) (win0_0.stage (cfg0.slots t 0)) (hstage0_0 _) (win0_1.stage (cfg0.slots t 1)) (hstage0_1 _)
    (win0_2.stage (cfg0.slots t 2)) (hstage0_2 _) (win0_3.stage (cfg0.slots t 3)) (hstage0_3 _) (win0_4.stage (cfg0.slots t 4)) (hstage0_4 _)
    (win0_5.stage (cfg0.slots t 5)) (hstage0_5 _) (win0_6.stage (cfg0.slots t 6)) (hstage0_6 _) (win0_7.stage (cfg0.slots t 7)) (hstage0_7 _)
    (win0_8.stage (cfg0.slots t 8)) (hstage0_8 _) (Memref.whole cc0_scratch0) (Memref.isWhole_whole _) (Memref.whole cc0_scratch1) (Memref.isWhole_whole _)
    (blk0 V c 0 t) (blk0 V c 1 t) (blk0 V c 2 t) (blk0 V c 3 t) (blk0 V c 4 t) (blk0 V c 5 t)
    ((dat0 V c).before 6 t d6) ((dat0 V c).before 7 t d7) ((dat0 V c).before 8 t d8) f g
    (fts0 V c) hY (putRows t.val (k0_pay3 (blk0 V c 1 t) (fts0 V c) (blk0 V c 3 p0) (blk0 V c 4 p0)) g) (by rw [coords0 t]; rfl) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HA]; · unfold own; rw [owns_whole]; iexact HA
  isplitl [HB]; · unfold own; rw [owns_whole]; iexact HB
  iintro ⟨H0, H1, H2, H3, H4, H5, H6, H7, H8, HA, HB⟩
  isplitl [HR HA HB]
  · isplitl [HA]
    · iexists fts0 V c
      isplitr; · ipureintro; exact fun _ => rfl
      unfold own; rw [owns_whole]; exact .rfl
    isplitl [HB]
    · iexists _
      isplitr; rotate_left; · unfold own; rw [owns_whole]; exact .rfl
      ipureintro; exact hZ
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  by_cases hc : k0_cond2 (grid0.coords t) = 1#1
  · have hi : (!(k0_cond2 (grid0.coords t) == 1#1)) = false := by rw [hc]; rfl
    rw [if_pos hc, if_pos hc, hlast hc, show cfg0.idle 6 (cfg0.grid.coords t) = false from hi]
    isplitl [H6]; · iexact H6
    isplitl [H7]; · iexact H7
    iexact H8
  · have hi : (!(k0_cond2 (grid0.coords t) == 1#1)) = true := by simp only [Bool.not_eq_true', beq_eq_false_iff_ne]; exact hc
    rw [if_neg hc, if_neg hc, show cfg0.idle 6 (cfg0.grid.coords t) = true from hi,
      show (cfg0.win 6).flush t = false from Bool.eq_false_iff.mpr fun h => hc ((cond0_iff t).mpr ((flush0_6 t).mp h)),
      show (cfg0.win 8).flush t = false from Bool.eq_false_iff.mpr fun h => hc ((cond0_iff t).mpr ((flush0_8 t).mp h))]
    isplitl [H6]; · iexists d6; iexact H6
    isplitl [H7]; · iexact H7
    iexists d8; iexact H8

end R0

end Cert.KernelIdeal.Hand
end
-- ==== Proof.Run.lean ====
module

public import proofs.«01_k».proof.Proof.Dat0
public import proofs.«01_k».proof.Proof.Gen.KernelIdeal.Regions
public import Idealize.ShloMosaic.Lib.Pipeline.FrameTail

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose Seg HostSeg RegionSeg)

variable {F : FTy → Type} [FloatOps F] [Named F]

local notation "𝕄" => MT nD τ sig Unit (Elt F) ℕ UU ℕ

/-- No core owes another anything: no level is assigned. -/
abbrev Lv : GSem nD τ sig → Finset Unit := fun _ => ∅
/-- Every level is zero. -/
abbrev lv : GSem nD τ sig → Unit → ℕ := fun _ _ => 0

/-- What rides beside the buffers between the items: the core owes nothing. -/
abbrev idleCore (c : Dev nD) : sProp 𝕄 := iprop(∃ W, owes (c.tc : Thread nD τ) (0 : CellTallies nD τ sig Unit) W)

/-- The thread state between two items: core `c`'s unscoped buffers at `V`, the core owing nothing. -/
abbrev state (V : Dev nD → Valuation τ sig (Elt F)) (c : Dev nD) : sProp 𝕄 :=
  iprop(StableHlo.held (c.tc : Thread nD τ) (Pipeline.ucRefs τ sig) (V c) ∗ idleCore c)

set_option backward.isDefEq.respectTransparency.types false in
/-- The record of kernel `p` entered from the buffers at `V`, left at what `Pipeline.afterRegion` says, for proof data whose
    arrays enter at `V`, which owe nothing, and whose invariant starts and ends as the scoped buffers the pipeline does not stage. -/
def region (pdats : (p : Fin 2) → (c : Dev nD) → Dat τ (Elt F) Unit ℕ UU ℕ (cfgs p) c) (p : Fin 2)
    (kit : Pipeline.LaunchFacts (nD := nD) (τ := τ) cfgs p) (V : Dev nD → Valuation τ sig (Elt F))
    (hbody : ∀ c, BodyObligationLoose (pdats p c) (defs₀ (F := F)) Variants.none () Set.univ)
    (hshare : ∀ c w, (pdats p c).share w = fullShare) (howed : ∀ c t, (pdats p c).owed t = 0) (hrec : ∀ c x, x ∈ (pdats p c).recorded 0)
    (hA : ∀ c w, (pdats p c).A w = V c (Proc.devRef .tc (Pipeline.arrRef (cfgs p).spec w)))
    (hin : ∀ c, (Pipeline.scopedRest (Ix := Unit) (Name := ℕ) (U := UU) (Lvl := ℕ) (Val := Elt F) (cfgs p).spec c : sProp 𝕄) ⊢ (pdats p c).Φ 0)
    (hout : ∀ c, (pdats p c).Φ (Fin.last (cfgs p).N) ⊢ (Pipeline.scopedRest (Ix := Unit) (Name := ℕ) (U := UU) (Lvl := ℕ) (Val := Elt F) (cfgs p).spec c : sProp 𝕄)) :
    RegionSeg (pcfgs (F := F)) adm pdats () defs₀ Variants.none Lv lv p where
  win := (kit.toP (Val := Elt F)).win.to₀
  block_pos := (kit.toP (Val := Elt F)).block_pos
  stage_whole := (kit.toP (Val := Elt F)).stage_whole
  K := PEmpty
  osem k := k.elim
  ho := Pipeline.OwnSemFacts.none _
  hbody := hbody
  hwaits := Pipeline.hwaits_of_owed_zero _ _ _ _ Lv lv p howed
  pre := state V
  post := state fun c => Pipeline.afterRegion (pdats p c) (V c)
  X _ := BI.emp
  Y _ := BI.emp
  Z c := Pipeline.unscopedRest (Ix := Unit) (Name := ℕ) (U := UU) (Lvl := ℕ) (cfgs p).spec c (fun b => V c (Proc.devRef .tc b))
  hentry c := by
    unfold state
    rw [Pipeline.ownSems0_none, ← Pipeline.unscopedBufs_held (Ix := Unit) (Name := ℕ) (U := UU) (Lvl := ℕ) c (V c)]
    have hsplit := Pipeline.arrays_of_unscopedBufs (p := p) (pcfgs (F := F)) adm pdats (kit.toP (Val := Elt F)).win (kit.toP (Val := Elt F)).arr_whole c (hshare c)
      (fun b => V c (Proc.devRef .tc b)) (fun w => hA c w)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (hrec c _)
      iexact HO
    isplitr; · iempintro
    iexact Hrest
  hin c := (show _ ⊢ (Pipeline.scopedRest (Ix := Unit) (Name := ℕ) (U := UU) (Lvl := ℕ) (Val := Elt F) (cfgs p).spec c : sProp 𝕄) from by
    iintro ⟨-, -, Hr⟩; iexact Hr).trans (hin c)
  hout c := (hout c).trans (by
    rw [Pipeline.ownSems0_none]
    iintro Hr
    isplitr; · iempintro
    isplitr; · iempintro
    iexact Hr)
  hexit c := by
    have hjoin := Pipeline.unscopedBufs_of_arrays (p := p) (pcfgs (F := F)) adm (Ix := Unit) (Name := ℕ) (U := UU) (Lvl := ℕ)
      (kit.toP (Val := Elt F)).win (kit.toP (Val := Elt F)).arr_whole c pdats (hshare c)
      (fun b => V c (Proc.devRef .tc b)) (fun b => Pipeline.afterRegion (pdats p c) (V c) (Proc.devRef .tc b)) ((pdats p c).arrAt · (cfgs p).N)
      (fun w => (Pipeline.afterRegion_arr (pdats p c) (V c) kit.win.arr_inj w).symm)
      (fun b hb => Pipeline.afterRegion_of_not_arr (pdats p c) (V c) fun w h => hb (h ▸ Finset.mem_image.mpr ⟨w, Finset.mem_univ _, rfl⟩))
    unfold state
    rw [← Pipeline.unscopedBufs_held (Ix := Unit) (Name := ℕ) (U := UU) (Lvl := ℕ) c (Pipeline.afterRegion (pdats p c) (V c))]
    iintro ⟨Ha, HO, -, Hrest⟩
    imodintro
    isplitl [Ha Hrest]
    · iapply hjoin; isplitl [Ha] <;> iassumption
    unfold Pipeline.Dat.owesAt Pipeline.owesWithin
    rw [howed c (Fin.last _)]
    icases HO with ⟨%W, -, HO⟩; iexists W; iexact HO

/-! ## The invariants at the kernels' ends -/

section Ends

variable (V : Dev nD → Valuation τ sig (Elt F)) (c : Dev nD)

/-- The first kernel's scoped buffers, whatever they hold, meet its invariant at the start, -/
theorem Phi0_in : (Pipeline.scopedRest (Ix := Unit) (Name := ℕ) (U := UU) (Lvl := ℕ) (Val := Elt F) spec0 c : sProp 𝕄) ⊢ Phi0 V c 0 := by
  rw [scopedRest0_eq]
  unfold Phi0
  iintro ⟨⟨%f, HA⟩, ⟨%g, HB⟩, HR⟩
  isplitl [HA]
  · iexists f; isplitr; · ipureintro; exact fun h => absurd rfl h
    iexact HA
  isplitl [HB]
  · iexists g; isplitr; · ipureintro; exact fun y hy => absurd hy (by omega)
    iexact HB
  iexact HR

/-- and its invariant gives them back. -/
theorem Phi0_out (n : ℕ) : Phi0 V c n ⊢ (Pipeline.scopedRest (Ix := Unit) (Name := ℕ) (U := UU) (Lvl := ℕ) (Val := Elt F) spec0 c : sProp 𝕄) := by
  rw [scopedRest0_eq]
  unfold Phi0
  iintro ⟨⟨%f, -, HA⟩, ⟨%g, -, HB⟩, HR⟩
  isplitl [HA]; · iexists f; iexact HA
  isplitl [HB]; · iexists g; iexact HB
  iexact HR

/-- The second kernel's scoped buffers, whatever they hold, meet its invariant at the start, -/
theorem Phi1_in : (Pipeline.scopedRest (Ix := Unit) (Name := ℕ) (U := UU) (Lvl := ℕ) (Val := Elt F) spec1 c : sProp 𝕄) ⊢ Phi1 V c 0 := by
  rw [scopedRest1_eq]
  unfold Phi1 rest1
  iintro ⟨Ha0, Ha1, Ha2, Ha3, Ha4, Ha5, Ha6, Ha7, Ha8, Ha9, Ha10, Ha11, Ha12, ⟨%f, HS⟩⟩
  isplitr [HS]; rotate_left
  · iexists f; isplitr; · ipureintro; exact fun h => absurd rfl h
    iexact HS
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  isplitl [Ha7]; · iexact Ha7
  isplitl [Ha8]; · iexact Ha8
  isplitl [Ha9]; · iexact Ha9
  isplitl [Ha10]; · iexact Ha10
  isplitl [Ha11]; · iexact Ha11
  iexact Ha12

/-- and its invariant gives them back. -/
theorem Phi1_out (n : ℕ) : Phi1 V c n ⊢ (Pipeline.scopedRest (Ix := Unit) (Name := ℕ) (U := UU) (Lvl := ℕ) (Val := Elt F) spec1 c : sProp 𝕄) := by
  rw [scopedRest1_eq]
  unfold Phi1 rest1
  iintro ⟨⟨Ha0, Ha1, Ha2, Ha3, Ha4, Ha5, Ha6, Ha7, Ha8, Ha9, Ha10, Ha11, Ha12⟩, ⟨%f, -, HS⟩⟩
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  isplitl [Ha7]; · iexact Ha7
  isplitl [Ha8]; · iexact Ha8
  isplitl [Ha9]; · iexact Ha9
  isplitl [Ha10]; · iexact Ha10
  isplitl [Ha11]; · iexact Ha11
  isplitl [Ha12]; · iexact Ha12
  iexists f; iexact HS

end Ends

/-! ## The buffers between the items -/

variable (m : (ℓ : Loc nD τ sig) → Buf (Elt F) ℓ)

/-- Core `c`'s buffers when the first kernel starts. -/
def W1 (c : Dev nD) : Valuation τ sig (Elt F) := StableHlo.after hostOps0 (V0 m c)
/-- Core `c`'s buffers after the first kernel. -/
def W2 (c : Dev nD) : Valuation τ sig (Elt F) := Pipeline.afterRegion (dat0 (W1 m) c) (W1 m c)
/-- Core `c`'s buffers when the second kernel starts. -/
def W3 (c : Dev nD) : Valuation τ sig (Elt F) := StableHlo.after hostOps1 (W2 m c)
/-- Core `c`'s buffers after the second kernel. -/
def W4 (c : Dev nD) : Valuation τ sig (Elt F) := Pipeline.afterRegion (dat1 (W3 m) c) (W3 m c)
/-- Core `c`'s buffers at the end. -/
def W5 (c : Dev nD) : Valuation τ sig (Elt F) := StableHlo.after hostOps2 (W4 m c)

/-- A buffer that nothing writes ends as launched. -/
theorem W5_kept (c : Dev nD) (r : Ref sig .tc) (h0 : r ∉ hostOps0_W) (h1 : ∀ w, r ≠ Pipeline.arrRef spec0 w) (h2 : r ∉ hostOps1_W)
    (h3 : ∀ w, r ≠ Pipeline.arrRef spec1 w) (h4 : r ∉ hostOps2_W) : W5 m c (Proc.devRef .tc r) = m ((c.tc : Thread nD τ).loc r) :=
  (StableHlo.after_of_writes_sub hostOps2 _ hostOps2_writes h4).trans <| (Pipeline.afterRegion_of_not_arr _ _ h3).trans <|
    (StableHlo.after_of_writes_sub hostOps1 _ hostOps1_writes h2).trans <| (Pipeline.afterRegion_of_not_arr _ _ h1).trans <|
    (StableHlo.after_of_writes_sub hostOps0 _ hostOps0_writes h0).trans rfl

/-- The kernels' proof data. -/
def dats : (p : Fin 2) → (c : Dev nD) → Dat τ (Elt F) Unit ℕ UU ℕ (cfgs p) c
  | 0, c => dat0 (W1 m) c
  | 1, c => dat1 (W3 m) c

/-- The first kernel's record. -/
def R0 : RegionSeg (pcfgs (F := F)) adm (dats m) () defs₀ Variants.none Lv lv 0 :=
  region (dats m) 0 launch0 (W1 m) (fun c => (body_obligation0 (W1 m) c).loose) (fun c => (dat0 (W1 m) c).share_full fun _ => rfl) (fun _ _ => rfl) (fun _ _ => trivial) (fun _ _ => rfl)
    (fun c => Phi0_in (W1 m) c) (fun c => Phi0_out (W1 m) c _)

/-- The second kernel's record. -/
def R1 : RegionSeg (pcfgs (F := F)) adm (dats m) () defs₀ Variants.none Lv lv 1 :=
  region (dats m) 1 launch1 (W3 m) (fun c => (body_obligation1 (W3 m) c).loose) (fun c => (dat1 (W3 m) c).share_full fun _ => rfl) (fun _ _ => rfl) (fun _ _ => trivial) (fun _ _ => rfl)
    (fun c => Phi1_in (W3 m) c) (fun c => Phi1_out (W3 m) c _)

/-- @main's items, in order. -/
abbrev items (c : Dev nD) : List (Seg (pcfgs (F := F)) adm (dats m) () defs₀ Variants.none Lv lv) :=
  [.host (HostSeg.ofOps _ _ _ _ _ (Pipeline.ucRefs τ sig) hostOps0 (fun op h => Pipeline.sub_ucRefs op ((List.forall_iff_forall_mem.mp hostOps0_sub) op h))
      (fun op h => (List.forall_iff_forall_mem.mp hostOps0_fresh) op h) (V0 m) idleCore),
    .region (R0 m),
    .host (HostSeg.ofOps _ _ _ _ _ (Pipeline.ucRefs τ sig) hostOps1 (fun op h => Pipeline.sub_ucRefs op ((List.forall_iff_forall_mem.mp hostOps1_sub) op h))
      (fun op h => (List.forall_iff_forall_mem.mp hostOps1_fresh) op h) (W2 m) idleCore),
    .region (R1 m),
    .host (HostSeg.ofOps _ _ _ _ _ (Pipeline.ucRefs τ sig) hostOps2 (fun op h => Pipeline.sub_ucRefs op ((List.forall_iff_forall_mem.mp hostOps2_sub) op h))
      (fun op h => (List.forall_iff_forall_mem.mp hostOps2_fresh) op h) (W4 m) idleCore)]

set_option backward.isDefEq.respectTransparency.types false in
/-- Every execution of @main ends, with every unscoped buffer of the core at the last valuation and every counter at zero. -/
theorem run_main (ρ : Dev nD → PrngReg) :
    θ_run defs (onTc (τ := τ) (main (F := F))) ⟨m, fun _ => 0, ρ⟩ (fun r => (∀ (c : Dev nD) (b : Ref sig .tc), b.isScoped = false →
      r.2.mem ((c.tc : Thread nD τ).loc b) = W5 m c (Proc.devRef .tc b)) ∧ r.2.sem = fun _ => 0) := by
  refine Pipeline.θ_run_regions_kit_dev_sems (pcfgs (F := F)) adm (dats m) () cellOf_inj (emb₁ : Emb _ 𝕄) defs₀ Variants.none Lv lv m ρ main (items m)
    (fun c Q => by
      rewrite [main_chain c, Seg.run_eq_chain,
        show (items m c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [items, Seg.pipes_host, Seg.pipes_region, Seg.pipes_nil]; decide) (O₀ := 0) (hL := fun _ _ => rfl)
    (G := fun _ => iprop(emp)) (u₀ := initOf (Pipeline.cells cfgs cellOf_inj) (Pipeline.launchToks cfgs cellOf_inj))
    (hu₀ := ?_)
    (T₀ := state (V0 m)) (Tₙ := fun c => StableHlo.held (c.tc : Thread nD τ) (Pipeline.ucRefs τ sig) (W5 m c))
    (hch := fun c => ⟨.rfl, .rfl, .rfl, .rfl, .rfl, .rfl⟩)
    (hinit := ?_) (QY := fun c s => ∀ b ∈ Pipeline.ucRefs τ sig, s.mem ((c.tc : Thread nD τ).1, b) = W5 m c b)
    (hfin := fun c s' => ?_)
    (hQ := fun _ h hz => ⟨fun c b hb => h c (Proc.devRef .tc b) (Pipeline.devRef_mem_ucRefs hb), funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach Lv lv fun c => ?_
    rw [show unscopedBufs c (fun b => m ((c.tc : Thread nD τ).loc b)) = StableHlo.held (c.tc : Thread nD τ) (Pipeline.ucRefs τ sig) (V0 m c)
        from Pipeline.unscopedBufs_held (Ix := Unit) (Name := ℕ) (U := UU) (Lvl := ℕ) c (V0 m c)]
    iintro ⟨⟨Hh, -, HO, -, -, -⟩, -⟩
    imodintro
    isplitl [Hh]; · iexact Hh
    iexists _; iexact HO
  · unfold StableHlo.held
    iintro ⟨Hh, HSI⟩
    ihave Hr := (pointsTo_read_all (Pipeline.ucRefs τ sig) (fun b => ((c.tc : Thread nD τ).1, b)) (W5 m c) s') $$ [Hh HSI]
    · isplitl [Hh] <;> iassumption
    imodintro; iexact Hr

/-- Every execution of @main ends, with both results at the last valuation, every argument as launched and every counter at zero. -/
theorem run_results (ρ : Dev nD → PrngReg) :
    θ_run defs (onTc (τ := τ) (main (F := F))) ⟨m, fun _ => 0, ρ⟩ (fun r => (∀ c : Dev nD,
      r.2.mem ((c.tc : Thread nD τ).loc main_v10) = W5 m c (Proc.devRef .tc main_v10)
      ∧ r.2.mem ((c.tc : Thread nD τ).loc main_v9_1) = W5 m c (Proc.devRef .tc main_v9_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run _ _ _).mono (fun r h => ⟨fun c =>
    ⟨h.1 c main_v10 rfl, h.1 c main_v9_1 rfl,
     (h.1 c main_arg0 rfl).trans (W5_kept m c main_arg0 (by decide) (by decide) (by decide) (by decide) (by decide)),
     (h.1 c main_arg1 rfl).trans (W5_kept m c main_arg1 (by decide) (by decide) (by decide) (by decide) (by decide)),
     (h.1 c main_arg2 rfl).trans (W5_kept m c main_arg2 (by decide) (by decide) (by decide) (by decide) (by decide)),
     (h.1 c main_arg3 rfl).trans (W5_kept m c main_arg3 (by decide) (by decide) (by decide) (by decide) (by decide)),
     (h.1 c main_arg4 rfl).trans (W5_kept m c main_arg4 (by decide) (by decide) (by decide) (by decide) (by decide)),
     (h.1 c main_arg5 rfl).trans (W5_kept m c main_arg5 (by decide) (by decide) (by decide) (by decide) (by decide)),
     (h.1 c main_arg6 rfl).trans (W5_kept m c main_arg6 (by decide) (by decide) (by decide) (by decide) (by decide))⟩, h.2⟩) (run_main m ρ)

/-- Every execution of @main ends, with every argument as launched and every counter at zero. -/
theorem run_args (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run _ _ _).mono (fun _ h => ⟨fun c => (h.1 c).2.2, h.2⟩) (run_results m ρ)

end Cert.KernelIdeal.Hand

end
-- ==== Proof.Bits.lean ====
module

public import proofs.«01_k».proof.Proof.Run
public import proofs.«01_k».proof.Proof.Gen.Kernel
public import proofs.«01_k».proof.Defs

@[expose] public section

set_option maxRecDepth 65536

noncomputable section

namespace Cert.Kernel.Hand

open Idealize.ShloMosaic Idealize.ShloMosaic.TcCoe Idealize.SL.Sem

/-- A named constant read as the literal it replaces. -/
abbrev literal {F : FTy → Type} [FloatOps F] : Named F where
  named _ _ {φ} bits := Scalar.ofBits φ bits

attribute [local instance] literal

/-- With the named constant read as its literal, the first kernel's body is the one of the program as written. -/
theorem body0_eq (i a ha b hb c hc d hd e he f hf g hg h hh j hj k hk l hl) :
    Cert.KernelIdeal.cc0__pass_a (F := Bits) i a ha b hb c hc d hd e he f hf g hg h hh j hj k hk l hl
      = Cert.Kernel.cc0__pass_a (F := Bits) i a ha b hb c hc d hd e he f hf g hg h hh j hj k hk l hl := rfl

/-- So is the second kernel's. -/
theorem body1_eq (i a ha b hb c hc d hd e he f hf g hg) :
    Cert.KernelIdeal.cc1__pass_b (F := Bits) i a ha b hb c hc d hd e he f hf g hg
      = Cert.Kernel.cc1__pass_b (F := Bits) i a ha b hb c hc d hd e he f hf g hg := rfl

/-- So are the two bodies as a table. -/
theorem bodies_eq : Cert.KernelIdeal.defs₀ (F := Bits) = Cert.Kernel.defs₀ := by
  unfold Cert.KernelIdeal.defs₀ Cert.Kernel.defs₀
  congr 1
  funext l a
  match l, a with
  | ⟨0, _⟩, (t, s) => exact body0_eq ..
  | ⟨1, _⟩, (t, s) => exact body1_eq ..

/-- So is the whole table the program runs under. -/
theorem defs_eq : Cert.KernelIdeal.defs (F := Bits) = Cert.Kernel.defs := by
  unfold Cert.KernelIdeal.defs Cert.Kernel.defs
  rw [bodies_eq]
  exact rfl

/-- The kernel as written keeps its arguments and ends quiescent. -/
theorem frame : Cert.quiescent_Kernel (hKernel := Cert.Kernel.Gen.facts) := fun m ρ _ => by
  rw [← defs_eq]
  exact Cert.KernelIdeal.Hand.run_args (F := Bits) m ρ

end Cert.Kernel.Hand

end
-- ==== Proof.Math.lean ====
module

public import Idealize.ShloMosaic.Lib.ValueIdx
public import Idealize.ShloMosaic.Lib.IdealHost

@[expose] public section

noncomputable section

namespace Cert.Hand

open Idealize.ShloMosaic

/-! ## The two layers on the extended reals, entry by entry -/

variable {N D : ℕ}

/-- A product with a transposed weight matrix: `x @ w.T`. -/
def times (x : Fin N → Fin D → EReal) (w : Fin D → Fin D → EReal) (r : Fin N) (d : Fin D) : EReal := ∑ k, x r k * w d k

/-- One propagation along the graph: `a @ f + b`. -/
def spread (a : Fin N → Fin N → EReal) (f : Fin N → Fin D → EReal) (b : Fin D → EReal) (r : Fin N) (d : Fin D) : EReal :=
  (∑ k, a r k * f k d) + b d

/-- The leaky rectifier of slope `s`. -/
def leaky (s z : EReal) : EReal := Scalar.select (Ideal.cmp .oge z 0) z (s * z)

/-- The second layer's products: the hidden layer times the second weights. -/
def second (x : Fin N → Fin D → EReal) (a : Fin N → Fin N → EReal) (w0 : Fin D → Fin D → EReal) (b0 : Fin D → EReal) (s : EReal)
    (w1 : Fin D → Fin D → EReal) : Fin N → Fin D → EReal := times (fun r d => leaky s (spread a (times x w0) b0 r d)) w1

/-- The largest magnitude in a column, kept from zero and scaled. -/
def scale (f : Fin N → Fin D → EReal) (d : Fin D) : EReal :=
  max ((Finset.univ : Finset (Fin N)).fold max (Ideal.ofBits .f32 0xFF800000#32) fun r => max (f r d) (-f r d))
    (Ideal.ofBits .f32 0x0DA24260#32) * Ideal.ofBits .f32 0x3B888889#32

/-- A propagation with every column first divided by its scale, and multiplied by it at the end. -/
def spreadScaled (a : Fin N → Fin N → EReal) (f : Fin N → Fin D → EReal) (b : Fin D → EReal) (r : Fin N) (d : Fin D) : EReal :=
  (∑ k, a r k * (f k d * Ideal.div 1 (scale f d))) * scale f d + b d

/-! ## Finite values -/

/-- An extended real that is a real number. -/
def Finite (z : EReal) : Prop := ∃ r : ℝ, z = (r : EReal)

/-- The product of two real numbers is one, -/
theorem Finite.mul {x y : EReal} (hx : Finite x) (hy : Finite y) : Finite (x * y) := by
  obtain ⟨a, rfl⟩ := hx; obtain ⟨b, rfl⟩ := hy
  exact ⟨a * b, (EReal.coe_mul a b).symm⟩

/-- and so is their sum. -/
theorem Finite.add {x y : EReal} (hx : Finite x) (hy : Finite y) : Finite (x + y) := by
  obtain ⟨a, rfl⟩ := hx; obtain ⟨b, rfl⟩ := hy
  exact ⟨a + b, (EReal.coe_add a b).symm⟩

/-- A finite sum of real numbers, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A finite sum of real numbers is one. -/
theorem Finite.sum {ι : Type*} (s : Finset ι) (f : ι → EReal) (h : ∀ i, Finite (f i)) : Finite (∑ i ∈ s, f i) := by
  choose g hg using h
  exact ⟨∑ i ∈ s, g i, by rw [coe_sum]; exact Finset.sum_congr rfl fun i _ => hg i⟩

/-- The rectifier of a real number is one. -/
theorem Finite.leaky {s z : EReal} (hs : Finite s) (hz : Finite z) : Finite (leaky s z) := by
  unfold Cert.Hand.leaky Scalar.select
  split
  · exact hz
  · exact hs.mul hz

/-- The products of finite matrices are finite. -/
theorem Finite.times {x : Fin N → Fin D → EReal} {w : Fin D → Fin D → EReal} (hx : ∀ r d, Finite (x r d)) (hw : ∀ r d, Finite (w r d))
    (r : Fin N) (d : Fin D) : Finite (times x w r d) := Finite.sum _ _ fun k => (hx r k).mul (hw d k)

/-- A propagation of finite arrays is finite. -/
theorem Finite.spread {a : Fin N → Fin N → EReal} {f : Fin N → Fin D → EReal} {b : Fin D → EReal} (ha : ∀ r d, Finite (a r d))
    (hf : ∀ r d, Finite (f r d)) (hb : ∀ d, Finite (b d)) (r : Fin N) (d : Fin D) : Finite (spread a f b r d) :=
  (Finite.sum _ _ fun k => (ha r k).mul (hf k d)).add (hb d)

/-- From finite arguments the second products are finite. -/
theorem Finite.second {x : Fin N → Fin D → EReal} {a : Fin N → Fin N → EReal} {w0 : Fin D → Fin D → EReal} {b0 : Fin D → EReal} {s : EReal}
    {w1 : Fin D → Fin D → EReal} (hx : ∀ r d, Finite (x r d)) (ha : ∀ r d, Finite (a r d)) (hw0 : ∀ r d, Finite (w0 r d))
    (hb0 : ∀ d, Finite (b0 d)) (hs : Finite s) (hw1 : ∀ r d, Finite (w1 r d)) (r : Fin N) (d : Fin D) :
    Finite (second x a w0 b0 s w1 r d) :=
  Finite.times (fun r d => hs.leaky (Finite.spread ha (Finite.times hx hw0) hb0 r d)) hw1 r d

/-- The least magnitude a scale is kept from falling under is a positive real. -/
theorem floor_pos : ∃ r : ℝ, Ideal.ofBits .f32 0x0DA24260#32 = (r : EReal) ∧ 0 < r := by
  refine ⟨_, by simp [Ideal.ofBits, Ideal.ieee, -EReal.coe_mul]; rfl, ?_⟩
  norm_num

/-- So is the factor of a scale. -/
theorem factor_pos : ∃ r : ℝ, Ideal.ofBits .f32 0x3B888889#32 = (r : EReal) ∧ 0 < r := by
  refine ⟨_, by simp [Ideal.ofBits, Ideal.ieee, -EReal.coe_mul]; rfl, ?_⟩
  norm_num

/-- A column's maximum starts from minus infinity. -/
theorem start_bot : Ideal.ofBits .f32 0xFF800000#32 = ⊥ := by
  simp [Ideal.ofBits, Ideal.ieee]

/-- Ten thousand, as the mean divides by it. -/
theorem count : Ideal.ofBits .f32 0x461C4000#32 = ((10000 : ℝ) : EReal) := by
  simp [Ideal.ofBits, Ideal.ieee, -EReal.coe_mul]; norm_num

/-- The scale of a finite column is a positive real number. -/
theorem scale_pos {f : Fin N → Fin D → EReal} (hf : ∀ r d, Finite (f r d)) (d : Fin D) : ∃ t : ℝ, scale f d = (t : EReal) ∧ 0 < t := by
  obtain ⟨lo, hlo, hlo0⟩ := floor_pos
  obtain ⟨c, hc, hc0⟩ := factor_pos
  have htop : (Finset.univ : Finset (Fin N)).fold max (Ideal.ofBits .f32 0xFF800000#32) (fun r => max (f r d) (-f r d)) < ⊤ := by
    rw [Finset.fold_max_lt]
    refine ⟨by rw [start_bot]; exact bot_lt_top, fun r _ => ?_⟩
    obtain ⟨v, hv⟩ := hf r d
    rw [hv, ← EReal.coe_neg]
    exact max_lt (EReal.coe_lt_top v) (EReal.coe_lt_top (-v))
  set M := max ((Finset.univ : Finset (Fin N)).fold max (Ideal.ofBits .f32 0xFF800000#32) (fun r => max (f r d) (-f r d)))
    (Ideal.ofBits .f32 0x0DA24260#32) with hM
  have h1 : M < ⊤ := max_lt htop (by rw [hlo]; exact EReal.coe_lt_top lo)
  have h0 : (0 : EReal) < M := lt_max_of_lt_right (by rw [hlo]; exact_mod_cast hlo0)
  have hMr : M = (M.toReal : EReal) := (EReal.coe_toReal h1.ne (ne_bot_of_gt h0)).symm
  have hM0 : 0 < M.toReal := by rw [hMr] at h0; exact_mod_cast h0
  refine ⟨M.toReal * c, ?_, mul_pos hM0 hc0⟩
  show M * _ = _
  rw [hc, EReal.coe_mul, ← hMr]

/-- Dividing finite columns by their scales before a propagation and multiplying after it changes nothing. -/
theorem spreadScaled_eq {a : Fin N → Fin N → EReal} {f : Fin N → Fin D → EReal} {b : Fin D → EReal} (ha : ∀ r d, Finite (a r d))
    (hf : ∀ r d, Finite (f r d)) (r : Fin N) (d : Fin D) : spreadScaled a f b r d = spread a f b r d := by
  obtain ⟨t, ht, ht0⟩ := scale_pos hf d
  unfold spreadScaled spread
  congr 1
  rw [ht]
  choose A hA using ha
  choose G hG using hf
  have e1 : ∀ k, a r k * (f k d * Ideal.div 1 (t : EReal)) = ((A r k * (G k d * (1 / t)) : ℝ) : EReal) := fun k => by
    rw [hA, hG, Ideal.div_coe ht0.ne', one_mul, EReal.coe_mul, EReal.coe_mul]
  have e2 : ∀ k, a r k * f k d = ((A r k * G k d : ℝ) : EReal) := fun k => by rw [hA, hG, EReal.coe_mul]
  rw [Finset.sum_congr rfl fun k _ => e1 k, Finset.sum_congr rfl fun k _ => e2 k, ← coe_sum, ← coe_sum, ← EReal.coe_mul, Finset.sum_mul]
  congr 1
  refine Finset.sum_congr rfl fun k _ => ?_
  field_simp

/-- A sum over ten blocks of a thousand rows is the sum over the ten thousand rows. -/
theorem sum_blocks (f : Fin 10000 → EReal) (g : Fin 10 → Fin 1000 → EReal)
    (h : ∀ p i (r : Fin 10000), r.val = 1000 * p.val + i.val → g p i = f r) : ∑ p, ∑ i, g p i = ∑ r, f r := by
  rw [← Fintype.sum_prod_type' g]
  refine Fintype.sum_equiv (finProdFinEquiv (m := 10) (n := 1000)) _ _ fun x => ?_
  exact h x.1 x.2 _ (by show x.2.val + 1000 * x.1.val = _; omega)

/-! ## Arrays read by their coordinates -/

open Idealize.ShloMosaic.ValueIdx

/-- A matrix under a unit leading axis. -/
def slab {M K : ℕ} (x : (⟨3, ![1, M, K]⟩ : Shape).Idx → EReal) (r : Fin M) (k : Fin K) : EReal := x (ix3 (0 : Fin 1) r k)
/-- A matrix. -/
def mat {M K : ℕ} (x : (⟨2, ![M, K]⟩ : Shape).Idx → EReal) (r : Fin M) (k : Fin K) : EReal := x (ix2 r k)
/-- A vector. -/
def vec {K : ℕ} (x : (⟨1, ![K]⟩ : Shape).Idx → EReal) (k : Fin K) : EReal := x (ix1 k)
/-- A scalar. -/
def scal (x : (⟨0, ![]⟩ : Shape).Idx → EReal) : EReal := x ix0

end Cert.Hand

end
-- ==== Proof.Payload.lean ====
module

public import proofs.«01_k».proof.Proof.Gen.KernelIdeal.Skeleton
public import Idealize.ShloMosaic.Lib.ValueIdx
public import Idealize.ShloMosaic.Lib.MatmulPlain
public import Idealize.ShloMosaic.Lib.IdealHost
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe
open Idealize.ShloMosaic.ValueIdx

/-- A row broadcast down the rows reads the row. -/
theorem broadcast_row {α : Type} {M N : ℕ} (x : (⟨2, ![1, N]⟩ : Shape).Idx → α) (h : (⟨2, ![1, N]⟩ : Shape).Broadcasts ⟨2, ![M, N]⟩)
    (r : Fin M) (d : Fin N) : broadcastTo ⟨2, ![M, N]⟩ x h (ix2 r d) = x (ix2 (0 : Fin 1) d) :=
  broadcastTo_apply x h _ _ (fun a => by
    match a with
    | ⟨0, _⟩ => rfl
    | ⟨1, _⟩ =>
      show d.val = if N = 1 then 0 else d.val
      split <;> omega)

/-- A vector cast to one row reads the vector. -/
theorem cast_row {α : Type} {N : ℕ} (x : (⟨1, ![N]⟩ : Shape).Idx → α) (h : (⟨1, ![N]⟩ : Shape).ShapeCasts ⟨2, ![1, N]⟩)
    (u : Fin 1) (d : Fin N) : shapeCast ⟨2, ![1, N]⟩ x h (ix2 u d) = x (ix1 d) :=
  shapeCast_apply x h _ _ (by
    have hu : u.val = 0 := by omega
    rw [Shape.rowMajor_val_two, Shape.rowMajor_val_one]
    show d.val = u.val * N + d.val
    rw [hu]; omega)

/-- A matrix cast under a unit leading axis reads the matrix. -/
theorem cast_slab {α : Type} {M N : ℕ} (x : (⟨2, ![M, N]⟩ : Shape).Idx → α) (h : (⟨2, ![M, N]⟩ : Shape).ShapeCasts ⟨3, ![1, M, N]⟩)
    (u : Fin 1) (r : Fin M) (d : Fin N) : shapeCast ⟨3, ![1, M, N]⟩ x h (ix3 u r d) = x (ix2 r d) :=
  shapeCast_apply x h _ _ (by
    have hu : u.val = 0 := by omega
    rw [Shape.rowMajor_val_three, Shape.rowMajor_val_two]
    show r.val * N + d.val = (u.val * M + r.val) * N + d.val
    rw [hu, Nat.zero_mul, Nat.zero_add])

/-- A unit leading axis cast away reads the matrix under it. -/
theorem cast_unslab {α : Type} {M N : ℕ} (x : (⟨3, ![1, M, N]⟩ : Shape).Idx → α) (h : (⟨3, ![1, M, N]⟩ : Shape).ShapeCasts ⟨2, ![M, N]⟩)
    (r : Fin M) (d : Fin N) : shapeCast ⟨2, ![M, N]⟩ x h (ix2 r d) = x (ix3 (0 : Fin 1) r d) :=
  shapeCast_apply x h _ _ (by
    rw [Shape.rowMajor_val_three, Shape.rowMajor_val_two]
    show (0 * M + r.val) * N + d.val = r.val * N + d.val
    rw [Nat.zero_mul, Nat.zero_add])

/-- The feature products, entry by entry. -/
theorem pay0_1_apply (x : Vec Ideal S10000x128 .f32) (w : Vec Ideal S128x128 .f32) (r : Fin 10000) (d : Fin 128) :
    k0_pay1 x w (ix2 r d) = ∑ k : Fin 128, x (ix2 r k) * w (ix2 k d) := by
  simp only [k0_pay1, shapeCast_self, matmul]
  refine (Ideal.matmul_plain_apply none x w _ r d).trans ?_
  rw [constant_apply, Ideal.ofBits_zero_f32, zero_add]

/-- One block of rows of the hidden layer, entry by entry. -/
theorem pay0_3_apply (a : Vec Ideal S400x10000 .f32) (f : Vec Ideal S10000x128 .f32) (b : Vec Ideal S1x128 .f32) (s : Vec Ideal S1x1 .f32)
    (i : Fin 400) (d : Fin 128) : k0_pay3 a f b s (ix2 i d)
      = Scalar.select (Ideal.cmp .oge ((∑ k : Fin 10000, a (ix2 i k) * f (ix2 k d)) + b (ix2 (0 : Fin 1) d)) 0)
          ((∑ k : Fin 10000, a (ix2 i k) * f (ix2 k d)) + b (ix2 (0 : Fin 1) d))
          (s (ix2 (0 : Fin 1) (0 : Fin 1)) * ((∑ k : Fin 10000, a (ix2 i k) * f (ix2 k d)) + b (ix2 (0 : Fin 1) d))) := by
  have h : addf (F := Ideal) (φ := .f32) (matmul (φ₁ := .f32) (φ₂ := .f32) dot_S400x10000_S10000x128_S400x128_1_0_0_1_n_n none a f (constant S400x128 .f32 0x00000000#32))
      (broadcastTo S400x128 b broadcasts_S1x128_S400x128) (ix2 i d) = (∑ k : Fin 10000, a (ix2 i k) * f (ix2 k d)) + b (ix2 (0 : Fin 1) d) := by
    rw [addf_apply, broadcast_row]
    congr 1
    refine (Ideal.matmul_plain_apply none a f _ i d).trans ?_
    rw [constant_apply, Ideal.ofBits_zero_f32, zero_add]
  simp only [k0_pay3, k0_pay2, shapeCast_self]
  rw [select_apply, cmpf_apply, mulf_apply, h]
  have e : (extractAt ![0, 0] s inpos_S1x1_p0_0 : Ideal .f32) = s (ix2 (0 : Fin 1) (0 : Fin 1)) := by
    unfold extractAt
    congr 1
    funext x
    match x with
    | ⟨0, _⟩ => rfl
    | ⟨1, _⟩ => rfl
  rw [broadcast_apply, broadcast_apply, e]
  have z : (Scalar.ofBits .f32 0x00000000#32 : Ideal .f32) = (0 : EReal) := Ideal.ofBits_zero_f32
  rw [z]
  rfl

/-- The adjacency block as stored: the block. -/
theorem pay0_4_apply (a : Vec Ideal S400x10000 .f32) (u : Fin 1) (i : Fin 400) (k : Fin 10000) :
    k0_pay4 a (ix3 u i k) = a (ix2 i k) := by
  simp only [k0_pay4, k0_pay2, shapeCast_self]
  rw [cast_slab]
  rfl

/-- The second products, entry by entry. -/
theorem pay0_5_apply (x : Vec Ideal S10000x128 .f32) (w : Vec Ideal S128x128 .f32) (r : Fin 10000) (d : Fin 128) :
    k0_pay5 x w (ix2 r d) = ∑ k : Fin 128, x (ix2 r k) * w (ix2 k d) := by
  simp only [k0_pay5, shapeCast_self, matmul]
  refine (Ideal.matmul_plain_apply none x w _ r d).trans ?_
  rw [constant_apply, Ideal.ofBits_zero_f32, zero_add]

/-- The scales, column by column: the largest magnitude of the column's products, kept from zero, times a constant. -/
theorem pay0_6_apply (x : Vec Ideal S10000x128 .f32) (w : Vec Ideal S128x128 .f32) (u : Fin 1) (d : Fin 128) :
    k0_pay6 x w (ix2 u d)
      = max ((Finset.univ : Finset (Fin 10000)).fold max (Ideal.ofBits .f32 0xFF800000#32) fun r => max (k0_pay5 x w (ix2 r d)) (-k0_pay5 x w (ix2 r d)))
          (Ideal.ofBits .f32 0x0DA24260#32) * Ideal.ofBits .f32 0x3B888889#32 := by
  simp only [k0_pay6]
  rw [mulf_apply, maximumf_apply, cast_row]
  refine congrArg₂ (· * ·) (congrArg₂ max ?_ rfl) rfl
  refine (Ideal.multiReduction_maximumf_single _ _ _ _ _ (ix1 d)).trans ?_
  refine congrArg (Finset.fold max _ · Finset.univ) (funext fun r => ?_)
  have e : Shape.Reduces.lift reduces_S10000x128_S128 (ix1 d) r = ix2 r d := by
    funext a
    match a with
    | ⟨0, _⟩ => rfl
    | ⟨1, _⟩ => rfl
  show absf (k0_pay5 x w) (Shape.Reduces.lift _ (ix1 d) r) = _
  rw [e]
  rfl

/-- The scaled products as stored. -/
theorem pay0_7_apply (x : Vec Ideal S10000x128 .f32) (w : Vec Ideal S128x128 .f32) (r : Fin 10000) (d : Fin 128) :
    k0_pay7 x w (ix2 r d) = k0_pay5 x w (ix2 r d) * Ideal.div 1 (k0_pay6 x w (ix2 (0 : Fin 1) d)) := by
  simp only [k0_pay7]
  rw [truncf_apply, mulf_apply, broadcast_row, divf_apply, broadcast_apply]
  exact congrArg (fun z => _ * Ideal.div z _) Ideal.ofBits_one_f32

/-- One block of rows of the node output, entry by entry. -/
theorem pay1_1_apply (a : Vec Ideal S1x1000x10000 .fp8e4m3) (f : Vec Ideal S10000x128 .fp8e4m3) (t b : Vec Ideal S1x128 .f32)
    (i : Fin 1000) (d : Fin 128) : k1_pay1 a f t b (ix2 i d)
      = (∑ k : Fin 10000, a (ix3 (0 : Fin 1) i k) * f (ix2 k d)) * t (ix2 (0 : Fin 1) d) + b (ix2 (0 : Fin 1) d) := by
  simp only [k1_pay1, shapeCast_self, matmul]
  rw [addf_apply, mulf_apply, broadcast_row, broadcast_row]
  congr 2
  refine (Ideal.matmul_plain_apply none _ f _ i d).trans ?_
  rw [constant_apply, Ideal.ofBits_zero_f32, zero_add]
  exact Finset.sum_congr rfl fun k _ => by rw [cast_unslab]

/-- The sums start at zero, -/
theorem pay1_2_apply (y : S1x128.Idx) : (k1_pay2 : FVec Ideal S1x128 .f32) y = (0 : EReal) := by
  simp only [k1_pay2, shapeCast_self]
  exact Ideal.ofBits_zero_f32

/-- each block adds its column sums, -/
theorem pay1_3_apply (a : Vec Ideal S1x1000x10000 .fp8e4m3) (f : Vec Ideal S10000x128 .fp8e4m3) (t b s : Vec Ideal S1x128 .f32)
    (u : Fin 1) (d : Fin 128) : k1_pay3 a f t b s (ix2 u d) = s (ix2 u d) + ∑ i : Fin 1000, k1_pay1 a f t b (ix2 i d) := by
  simp only [k1_pay3, shapeCast_self]
  rw [addf_apply, cast_row]
  refine congrArg (s (ix2 u d) + ·) ?_
  refine (Ideal.multiReduction_add_single _ _ _ _ _ (ix1 d)).trans (Finset.sum_congr rfl fun r _ => ?_)
  congr 1
  funext a
  match a with
  | ⟨0, _⟩ => rfl
  | ⟨1, _⟩ => rfl

/-- and the last point takes the logistic function of their mean. -/
theorem pay1_4_apply (s : Vec Ideal S1x128 .f32) (y : S1x128.Idx) :
    k1_pay4 s y = Ideal.logistic (s y * ((1 / 10000 : ℝ) : EReal)) := by
  simp only [k1_pay4]
  show Ideal.logistic (s y * (Named.named κ "inv_n" 0x38D1B717#32 : Ideal .f32)) = _
  rw [IdealRules.named_const.ideal_named_scalar _ _ _ _ rfl]

end Cert.KernelIdeal.Hand

end
-- ==== Proof.Blocks.lean ====
module

public import proofs.«01_k».proof.Proof.Run
public import Idealize.ShloMosaic.Lib.ValueIdx

@[expose] public section

set_option maxRecDepth 16384

noncomputable section

namespace Cert.KernelIdeal.Hand

open Cert.KernelIdeal Cert.KernelIdeal.Gen
open Idealize.ShloMosaic Idealize.ShloMosaic.TcCoe
open Idealize.ShloMosaic.ValueIdx
open Idealize.ShloMosaic.Pipeline (Dat Cfg Window)

variable {F : FTy → Type} [FloatOps F] [Named F]
variable (V : Dev nD → Valuation τ sig (Elt F)) (c : Dev nD)

/-- Where the adjacency window of the first kernel stands at each point. -/
theorem index0_1 : ∀ t : Fin cfg0.N, win0_1.index t (0 : Fin 2) = t.val ∧ win0_1.index t (1 : Fin 2) = 0 := by decide +kernel

/-- Row `i` of point `t`'s block of the adjacency is its row `400 t + i`. -/
theorem blk0_1_apply (t : Fin cfg0.N) (i : Fin 400) (k : Fin 10000) (r : Fin 10000) (hr : r.val = 400 * t.val + i.val) :
    blk0 V c 1 t (ix2 i k) = V c (Proc.devRef .tc main_v1) (ix2 r k) := by
  refine congrArg (V c (Proc.devRef .tc main_v1)) (funext fun a => Fin.ext ?_)
  match a with
  | ⟨0, _⟩ =>
    show win0_1.index t (0 : Fin 2) * 400 + 1 * i.val = r.val
    rw [(index0_1 t).1]; omega
  | ⟨1, _⟩ =>
    show win0_1.index t (1 : Fin 2) * 10000 + 1 * k.val = k.val
    rw [(index0_1 t).2]; omega

/-- The first kernel reads the whole of the node features, -/
theorem blk0_0_eq (t : Fin cfg0.N) : blk0 V c 0 t = V c (Proc.devRef .tc main_v0) := by
  have hz : (fun a => win0_0.index t a * main_v0.ty.shape.size a) = fun _ => 0 := funext fun a => by revert t; fin_cases a <;> decide +kernel
  exact Memref.read_access_unit_zero (Elt F) main_v0 hz (fun a => by rw [congrFun hz a]; simp) (V c (Proc.devRef .tc main_v0))

/-- of the first weights, transposed, -/
theorem blk0_2_eq (t : Fin cfg0.N) : blk0 V c 2 t = V c (Proc.devRef .tc main_v2) := by
  have hz : (fun a => win0_2.index t a * main_v2.ty.shape.size a) = fun _ => 0 := funext fun a => by revert t; fin_cases a <;> decide +kernel
  exact Memref.read_access_unit_zero (Elt F) main_v2 hz (fun a => by rw [congrFun hz a]; simp) (V c (Proc.devRef .tc main_v2))

/-- of the first bias, -/
theorem blk0_3_eq (t : Fin cfg0.N) : blk0 V c 3 t = V c (Proc.devRef .tc main_v4) := by
  have hz : (fun a => win0_3.index t a * main_v4.ty.shape.size a) = fun _ => 0 := funext fun a => by revert t; fin_cases a <;> decide +kernel
  exact Memref.read_access_unit_zero (Elt F) main_v4 hz (fun a => by rw [congrFun hz a]; simp) (V c (Proc.devRef .tc main_v4))

/-- of the slope, -/
theorem blk0_4_eq (t : Fin cfg0.N) : blk0 V c 4 t = V c (Proc.devRef .tc main_v6) := by
  have hz : (fun a => win0_4.index t a * main_v6.ty.shape.size a) = fun _ => 0 := funext fun a => by revert t; fin_cases a <;> decide +kernel
  exact Memref.read_access_unit_zero (Elt F) main_v6 hz (fun a => by rw [congrFun hz a]; simp) (V c (Proc.devRef .tc main_v6))

/-- and of the second weights, transposed. -/
theorem blk0_5_eq (t : Fin cfg0.N) : blk0 V c 5 t = V c (Proc.devRef .tc main_v3) := by
  have hz : (fun a => win0_5.index t a * main_v3.ty.shape.size a) = fun _ => 0 := funext fun a => by revert t; fin_cases a <;> decide +kernel
  exact Memref.read_access_unit_zero (Elt F) main_v3 hz (fun a => by rw [congrFun hz a]; simp) (V c (Proc.devRef .tc main_v3))

/-- Where the stored adjacency's window of the second kernel stands at each point. -/
theorem index1_0 : ∀ t : Fin cfg1.N, win1_0.index t (0 : Fin 3) = t.val ∧ win1_0.index t (1 : Fin 3) = 0 ∧ win1_0.index t (2 : Fin 3) = 0 := by
  decide +kernel

/-- Point `t`'s block of the stored adjacency is its slab `t`. -/
theorem blk1_0_apply (t : Fin cfg1.N) (u : Fin 1) (i : Fin 1000) (k : Fin 10000) (a : Fin 10) (ha : a.val = t.val) :
    blk1 V c 0 t (ix3 u i k) = V c (Proc.devRef .tc main_v8) (ix3 a i k) := by
  refine congrArg (V c (Proc.devRef .tc main_v8)) (funext fun d => Fin.ext ?_)
  match d with
  | ⟨0, _⟩ =>
    show win1_0.index t (0 : Fin 3) * 1 + 1 * u.val = a.val
    rw [(index1_0 t).1]; omega
  | ⟨1, _⟩ =>
    show win1_0.index t (1 : Fin 3) * 1000 + 1 * i.val = i.val
    rw [(index1_0 t).2.1]; omega
  | ⟨2, _⟩ =>
    show win1_0.index t (2 : Fin 3) * 10000 + 1 * k.val = k.val
    rw [(index1_0 t).2.2]; omega

/-- The second kernel reads the whole of the scaled products, -/
theorem blk1_1_eq (t : Fin cfg1.N) : blk1 V c 1 t = V c (Proc.devRef .tc main_v7_0) := by
  have hz : (fun a => win1_1.index t a * main_v7_0.ty.shape.size a) = fun _ => 0 := funext fun a => by revert t; fin_cases a <;> decide +kernel
  exact Memref.read_access_unit_zero (Elt F) main_v7_0 hz (fun a => by rw [congrFun hz a]; simp) (V c (Proc.devRef .tc main_v7_0))

/-- of the scales, -/
theorem blk1_2_eq (t : Fin cfg1.N) : blk1 V c 2 t = V c (Proc.devRef .tc main_v7_2) := by
  have hz : (fun a => win1_2.index t a * main_v7_2.ty.shape.size a) = fun _ => 0 := funext fun a => by revert t; fin_cases a <;> decide +kernel
  exact Memref.read_access_unit_zero (Elt F) main_v7_2 hz (fun a => by rw [congrFun hz a]; simp) (V c (Proc.devRef .tc main_v7_2))

/-- and of the second bias. -/
theorem blk1_3_eq (t : Fin cfg1.N) : blk1 V c 3 t = V c (Proc.devRef .tc main_v5) := by
  have hz : (fun a => win1_3.index t a * main_v5.ty.shape.size a) = fun _ => 0 := funext fun a => by revert t; fin_cases a <;> decide +kernel
  exact Memref.read_access_unit_zero (Elt F) main_v5 hz (fun a => by rw [congrFun hz a]; simp) (V c (Proc.devRef .tc main_v5))

/-- The first kernel's last point. -/
abbrev last0 : Fin cfg0.N := ⟨24, by rw [show cfg0.N = 25 from N_0]; decide⟩
/-- The second kernel's last point. -/
abbrev last1 : Fin cfg1.N := ⟨9, by rw [show cfg1.N = 10 from N_1]; decide⟩

/-- The first kernel leaves the scaled products, -/
theorem final0_6 : (dat0 V c).arrAt 6 cfg0.N = k0_pay7 (hid V c) (blk0 V c 5 p0) :=
  (dat0 V c).arrAt_eq_of_cover 6 (k0_pay7 (hid V c) (blk0 V c 5 p0)) (fun t hf => by
    have h : t.val % 25 = 24 := (flush0_6 t).mp hf
    have ht : t.val < 25 := Nat.lt_of_lt_of_eq t.isLt N_0
    obtain rfl : t = last0 := Fin.ext (by show t.val = 24; omega)
    show k0_pay7 (hid V c) (blk0 V c 5 p0) = _
    have hz : (fun a => win0_6.index last0 a * main_v7_0.ty.shape.size a) = fun _ => 0 := funext fun a => by fin_cases a <;> decide +kernel
    exact (Memref.read_access_unit_zero (Elt F) main_v7_0 hz (fun a => by rw [congrFun hz a]; simp) (k0_pay7 (hid V c) (blk0 V c 5 p0))).symm)
    fun i => ⟨last0, (flush0_6 last0).mpr rfl, by
      show i ∈ ((View.whole main_v7_0).slice (win0_6.rect last0)).set
      rw [View.set_slice_whole, Rect.mem_set_unit]
      intro a
      match a with
      | ⟨0, _⟩ =>
        show win0_6.index last0 0 * 10000 ≤ (i 0 : ℕ) ∧ (i 0 : ℕ) < win0_6.index last0 0 * 10000 + 10000
        have h : (i 0 : ℕ) < 10000 := (i 0).isLt
        rw [show win0_6.index last0 0 = 0 from by decide +kernel]; omega
      | ⟨1, _⟩ =>
        show win0_6.index last0 1 * 128 ≤ (i 1 : ℕ) ∧ (i 1 : ℕ) < win0_6.index last0 1 * 128 + 128
        have h : (i 1 : ℕ) < 128 := (i 1).isLt
        rw [show win0_6.index last0 1 = 0 from by decide +kernel]; omega⟩

/-- and the scales. -/
theorem final0_8 : (dat0 V c).arrAt 8 cfg0.N = k0_pay6 (hid V c) (blk0 V c 5 p0) :=
  (dat0 V c).arrAt_eq_of_cover 8 (k0_pay6 (hid V c) (blk0 V c 5 p0)) (fun t hf => by
    have h : t.val % 25 = 24 := (flush0_8 t).mp hf
    have ht : t.val < 25 := Nat.lt_of_lt_of_eq t.isLt N_0
    obtain rfl : t = last0 := Fin.ext (by show t.val = 24; omega)
    show k0_pay6 (hid V c) (blk0 V c 5 p0) = _
    have hz : (fun a => win0_8.index last0 a * main_v7_2.ty.shape.size a) = fun _ => 0 := funext fun a => by fin_cases a <;> decide +kernel
    exact (Memref.read_access_unit_zero (Elt F) main_v7_2 hz (fun a => by rw [congrFun hz a]; simp) (k0_pay6 (hid V c) (blk0 V c 5 p0))).symm)
    fun i => ⟨last0, (flush0_8 last0).mpr rfl, by
      show i ∈ ((View.whole main_v7_2).slice (win0_8.rect last0)).set
      rw [View.set_slice_whole, Rect.mem_set_unit]
      intro a
      match a with
      | ⟨0, _⟩ =>
        show win0_8.index last0 0 * 1 ≤ (i 0 : ℕ) ∧ (i 0 : ℕ) < win0_8.index last0 0 * 1 + 1
        have h : (i 0 : ℕ) < 1 := (i 0).isLt
        rw [show win0_8.index last0 0 = 0 from by decide +kernel]; omega
      | ⟨1, _⟩ =>
        show win0_8.index last0 1 * 128 ≤ (i 1 : ℕ) ∧ (i 1 : ℕ) < win0_8.index last0 1 * 128 + 128
        have h : (i 1 : ℕ) < 128 := (i 1).isLt
        rw [show win0_8.index last0 1 = 0 from by decide +kernel]; omega⟩

/-- The second kernel leaves the graph embedding. -/
theorem final1_5 : (dat1 V c).arrAt 5 cfg1.N = k1_pay4 (acc1 V c 10) :=
  (dat1 V c).arrAt_eq_of_cover 5 (k1_pay4 (acc1 V c 10)) (fun t hf => by
    have h : t.val % 10 = 9 := (flush1_5 t).mp hf
    have ht : t.val < 10 := Nat.lt_of_lt_of_eq t.isLt N_1
    obtain rfl : t = last1 := Fin.ext (by show t.val = 9; omega)
    show k1_pay4 (acc1 V c 10) = _
    have hz : (fun a => win1_5.index last1 a * main_v9_1.ty.shape.size a) = fun _ => 0 := funext fun a => by fin_cases a <;> decide +kernel
    exact (Memref.read_access_unit_zero (Elt F) main_v9_1 hz (fun a => by rw [congrFun hz a]; simp) (k1_pay4 (acc1 V c 10))).symm)
    fun i => ⟨last1, (flush1_5 last1).mpr rfl, by
      show i ∈ ((View.whole main_v9_1).slice (win1_5.rect last1)).set
      rw [View.set_slice_whole, Rect.mem_set_unit]
      intro a
      match a with
      | ⟨0, _⟩ =>
        show win1_5.index last1 0 * 1 ≤ (i 0 : ℕ) ∧ (i 0 : ℕ) < win1_5.index last1 0 * 1 + 1
        have h : (i 0 : ℕ) < 1 := (i 0).isLt
        rw [show win1_5.index last1 0 = 0 from by decide +kernel]; omega
      | ⟨1, _⟩ =>
        show win1_5.index last1 1 * 128 ≤ (i 1 : ℕ) ∧ (i 1 : ℕ) < win1_5.index last1 1 * 128 + 128
        have h : (i 1 : ℕ) < 128 := (i 1).isLt
        rw [show win1_5.index last1 1 = 0 from by decide +kernel]; omega⟩

/-- Where the stored adjacency's window of the first kernel stands at each point. -/
theorem index0_7 : ∀ t : Fin cfg0.N, win0_7.index t (0 : Fin 3) = t.val ∧ win0_7.index t (1 : Fin 3) = 0 ∧ win0_7.index t (2 : Fin 3) = 0 := by
  decide +kernel

/-- The point of the first kernel that writes slab `a`. -/
abbrev ptA (a : Fin 25) : Fin cfg0.N := ⟨a.val, by rw [show cfg0.N = 25 from N_0]; exact a.isLt⟩

/-- The adjacency as the first kernel stores it: slab by slab, what each point stores. -/
def stored (y : S25x400x10000.Idx) : Elt F .fp8e4m3 := k0_pay4 (blk0 V c 1 (ptA (y 0))) (ix3 (0 : Fin 1) (y 1) (y 2))

/-- The first kernel leaves the stored adjacency. -/
theorem final0_7 : (dat0 V c).arrAt 7 cfg0.N = stored V c :=
  (dat0 V c).arrAt_eq_of_cover 7 (stored V c) (fun t _ => by
    funext y
    show k0_pay4 (blk0 V c 1 t) y = stored V c (((cfg0.win 7).blk t).view.emb y)
    have e : ((cfg0.win 7).blk t).view.emb y = ix3 (⟨t.val, Nat.lt_of_lt_of_eq t.isLt N_0⟩ : Fin 25) (y 1) (y 2) := by
      refine funext fun d => Fin.ext ?_
      match d with
      | ⟨0, _⟩ =>
        show win0_7.index t (0 : Fin 3) * 1 + 1 * (y 0).val = t.val
        have : (y 0).val < 1 := (y 0).isLt
        rw [(index0_7 t).1]; omega
      | ⟨1, _⟩ =>
        show win0_7.index t (1 : Fin 3) * 400 + 1 * (y 1).val = (y 1).val
        rw [(index0_7 t).2.1]; omega
      | ⟨2, _⟩ =>
        show win0_7.index t (2 : Fin 3) * 10000 + 1 * (y 2).val = (y 2).val
        rw [(index0_7 t).2.2]; omega
    rw [e]
    show k0_pay4 (blk0 V c 1 t) y = k0_pay4 (blk0 V c 1 t) (ix3 (0 : Fin 1) (y 1) (y 2))
    congr 1
    refine (eq_ix3 y).trans ?_
    rw [show y 0 = (0 : Fin 1) from Fin.ext (by have : (y 0).val < 1 := (y 0).isLt; show (y 0).val = 0; omega)]
    rfl)
    fun i => ⟨ptA (i 0), flush0_7 _, by
      show i ∈ ((View.whole main_v7_1).slice (win0_7.rect (ptA (i 0)))).set
      rw [View.set_slice_whole, Rect.mem_set_unit]
      intro a
      match a with
      | ⟨0, _⟩ =>
        show win0_7.index (ptA (i 0)) (0 : Fin 3) * 1 ≤ (i 0 : ℕ) ∧ (i 0 : ℕ) < win0_7.index (ptA (i 0)) (0 : Fin 3) * 1 + 1
        rw [(index0_7 _).1]; show (i 0 : ℕ) * 1 ≤ (i 0 : ℕ) ∧ (i 0 : ℕ) < (i 0 : ℕ) * 1 + 1; omega
      | ⟨1, _⟩ =>
        show win0_7.index (ptA (i 0)) (1 : Fin 3) * 400 ≤ (i 1 : ℕ) ∧ (i 1 : ℕ) < win0_7.index (ptA (i 0)) (1 : Fin 3) * 400 + 400
        have h : (i 1 : ℕ) < 400 := (i 1).isLt
        rw [(index0_7 _).2.1]; omega
      | ⟨2, _⟩ =>
        show win0_7.index (ptA (i 0)) (2 : Fin 3) * 10000 ≤ (i 2 : ℕ) ∧ (i 2 : ℕ) < win0_7.index (ptA (i 0)) (2 : Fin 3) * 10000 + 10000
        have h : (i 2 : ℕ) < 10000 := (i 2).isLt
        rw [(index0_7 _).2.2]; omega⟩

/-- Where the second kernel's node output stands at each point. -/
theorem index1_4 : ∀ t : Fin cfg1.N, win1_4.index t (0 : Fin 2) = t.val ∧ win1_4.index t (1 : Fin 2) = 0 := by decide +kernel

/-- The point of the second kernel that writes row `r`, -/
abbrev ptR (r : Fin 10000) : Fin cfg1.N := ⟨r.val / 1000, by rw [show cfg1.N = 10 from N_1]; omega⟩
/-- and that row in the point's block. -/
abbrev inR (r : Fin 10000) : Fin 1000 := ⟨r.val % 1000, by omega⟩

/-- The node output as the second kernel writes it, block by block. -/
def nodes (y : S10000x128.Idx) : Elt F .f32 :=
  k1_pay1 (blk1 V c 0 (ptR (y 0))) (blk1 V c 1 (ptR (y 0))) (blk1 V c 2 (ptR (y 0))) (blk1 V c 3 (ptR (y 0))) (ix2 (inR (y 0)) (y 1))

/-- The second kernel leaves the node output. -/
theorem final1_4 : (dat1 V c).arrAt 4 cfg1.N = nodes V c :=
  (dat1 V c).arrAt_eq_of_cover 4 (nodes V c) (fun t _ => by
    have ht : t.val < 10 := Nat.lt_of_lt_of_eq t.isLt N_1
    funext y
    show k1_pay1 (blk1 V c 0 t) (blk1 V c 1 t) (blk1 V c 2 t) (blk1 V c 3 t) y = nodes V c (((cfg1.win 4).blk t).view.emb y)
    have hy : (y 0).val < 1000 := (y 0).isLt
    have e : ((cfg1.win 4).blk t).view.emb y = ix2 (⟨1000 * t.val + (y 0).val, by omega⟩ : Fin 10000) (y 1) := by
      refine funext fun d => Fin.ext ?_
      match d with
      | ⟨0, _⟩ =>
        show win1_4.index t (0 : Fin 2) * 1000 + 1 * (y 0).val = 1000 * t.val + (y 0).val
        rw [(index1_4 t).1]; omega
      | ⟨1, _⟩ =>
        show win1_4.index t (1 : Fin 2) * 128 + 1 * (y 1).val = (y 1).val
        rw [(index1_4 t).2]; omega
    rw [e]
    unfold nodes
    have ep : ptR (⟨1000 * t.val + (y 0).val, by omega⟩ : Fin 10000) = t := Fin.ext (by show (1000 * t.val + (y 0).val) / 1000 = t.val; omega)
    have ei : inR (⟨1000 * t.val + (y 0).val, by omega⟩ : Fin 10000) = y 0 := Fin.ext (by show (1000 * t.val + (y 0).val) % 1000 = (y 0).val; omega)
    show _ = k1_pay1 (blk1 V c 0 (ptR (⟨1000 * t.val + (y 0).val, by omega⟩ : Fin 10000))) (blk1 V c 1 (ptR (⟨1000 * t.val + (y 0).val, by omega⟩ : Fin 10000)))
      (blk1 V c 2 (ptR (⟨1000 * t.val + (y 0).val, by omega⟩ : Fin 10000))) (blk1 V c 3 (ptR (⟨1000 * t.val + (y 0).val, by omega⟩ : Fin 10000)))
      (ix2 (inR (⟨1000 * t.val + (y 0).val, by omega⟩ : Fin 10000)) (y 1))
    rw [ep, ei]
    exact congrArg _ (eq_ix2 y))
    fun i => ⟨ptR (i 0), flush1_4 _, by
      show i ∈ ((View.whole main_v9_0).slice (win1_4.rect (ptR (i 0)))).set
      rw [View.set_slice_whole, Rect.mem_set_unit]
      intro a
      match a with
      | ⟨0, _⟩ =>
        show win1_4.index (ptR (i 0)) (0 : Fin 2) * 1000 ≤ (i 0 : ℕ) ∧ (i 0 : ℕ) < win1_4.index (ptR (i 0)) (0 : Fin 2) * 1000 + 1000
        rw [(index1_4 _).1]; show (i 0 : ℕ) / 1000 * 1000 ≤ (i 0 : ℕ) ∧ (i 0 : ℕ) < (i 0 : ℕ) / 1000 * 1000 + 1000; omega
      | ⟨1, _⟩ =>
        show win1_4.index (ptR (i 0)) (1 : Fin 2) * 128 ≤ (i 1 : ℕ) ∧ (i 1 : ℕ) < win1_4.index (ptR (i 0)) (1 : Fin 2) * 128 + 128
        have h : (i 1 : ℕ) < 128 := (i 1).isLt
        rw [(index1_4 _).2]; omega⟩

end Cert.KernelIdeal.Hand

end
-- ==== Proof.Value.lean ====
module

public import proofs.«01_k».proof.Proof.Math
public import proofs.«01_k».proof.Proof.Payload
public import proofs.«01_k».proof.Proof.Blocks
public import Idealize.ShloMosaic.Lib.StableHlo.Run

@[expose] public section

set_option maxRecDepth 16384

noncomputable section

namespace Cert.KernelIdeal.Hand

open Cert.KernelIdeal Cert.KernelIdeal.Gen Cert.Hand
open Idealize.ShloMosaic Idealize.ShloMosaic.TcCoe
open Idealize.ShloMosaic.ValueIdx Idealize.ShloMosaic.Tactic

/-! ## The first kernel's arrays, from any buffers -/

section Anywhere

variable (V : Dev nD → Valuation τ sig (Elt Ideal)) (c : Dev nD)

/-- The features as the first kernel finds them, -/
def inX : Fin 10000 → Fin 128 → EReal := mat (V c (Proc.devRef .tc main_v0))
/-- the adjacency, -/
def inA : Fin 10000 → Fin 10000 → EReal := mat (V c (Proc.devRef .tc main_v1))
/-- the first weights, -/
def inW0 (d k : Fin 128) : EReal := mat (V c (Proc.devRef .tc main_v2)) k d
/-- the first bias, -/
def inB0 : Fin 128 → EReal := mat (V c (Proc.devRef .tc main_v4)) (0 : Fin 1)
/-- the slope, -/
def inS : EReal := mat (V c (Proc.devRef .tc main_v6)) (0 : Fin 1) (0 : Fin 1)
/-- and the second weights. -/
def inW1 (d k : Fin 128) : EReal := mat (V c (Proc.devRef .tc main_v3)) k d

/-- The second products of what the first kernel finds. -/
def inSecond : Fin 10000 → Fin 128 → EReal := second (inX V c) (inA V c) (inW0 V c) (inB0 V c) (inS V c) (inW1 V c)

/-- The first scratch, entry by entry. -/
theorem fts0_apply (r : Fin 10000) (d : Fin 128) : fts0 V c (ix2 r d) = times (inX V c) (inW0 V c) r d := by
  rw [fts0, blk0_0_eq, blk0_2_eq]
  exact pay0_1_apply _ _ r d

/-- The hidden layer, entry by entry. -/
theorem hid_apply (r : Fin 10000) (d : Fin 128) :
    hid V c (ix2 r d) = leaky (inS V c) (spread (inA V c) (times (inX V c) (inW0 V c)) (inB0 V c) r d) := by
  unfold hid
  have hl : Rect.unitLocal (s := S10000x128) (off := ![400 * ((ix2 r d (0 : Fin 2)).val / 400), 0]) (size := S400x128.size) (ix2 r d)
      (Rect.unit_rows_mem (ix2 r d) rfl rfl (own_rows (ix2 r d))) = ix2 (⟨r.val % 400, by omega⟩ : Fin 400) d := by
    funext a
    apply Fin.ext
    match a with
    | ⟨0, _⟩ =>
      show r.val - 400 * (r.val / 400) = r.val % 400
      omega
    | ⟨1, _⟩ => exact Nat.sub_zero _
  rw [hl, blk0_3_eq, blk0_4_eq]
  refine (pay0_3_apply _ _ _ _ _ d).trans ?_
  have ha : ∀ k : Fin 10000, blk0 V c 1 (pt0 (ix2 r d)) (ix2 (⟨r.val % 400, by omega⟩ : Fin 400) k) = inA V c r k := fun k =>
    blk0_1_apply V c (pt0 (ix2 r d)) _ k r (by show r.val = 400 * (r.val / 400) + r.val % 400; omega)
  simp only [ha, fts0_apply]
  rfl

/-- The second products, entry by entry. -/
theorem second_apply (r : Fin 10000) (d : Fin 128) : k0_pay5 (hid V c) (blk0 V c 5 p0) (ix2 r d) = inSecond V c r d := by
  rw [pay0_5_apply, blk0_5_eq]
  simp only [hid_apply]
  rfl

/-- The scales, entry by entry. -/
theorem scale_apply (u : Fin 1) (d : Fin 128) : k0_pay6 (hid V c) (blk0 V c 5 p0) (ix2 u d) = scale (inSecond V c) d := by
  rw [pay0_6_apply]
  simp only [second_apply]
  rfl

/-- The scaled second products, entry by entry. -/
theorem scaled_apply (r : Fin 10000) (d : Fin 128) :
    k0_pay7 (hid V c) (blk0 V c 5 p0) (ix2 r d) = inSecond V c r d * Ideal.div 1 (scale (inSecond V c) d) := by
  rw [pay0_7_apply, second_apply, scale_apply]

/-- The stored adjacency, entry by entry. -/
theorem stored_apply (b : Fin 25) (i : Fin 400) (k r : Fin 10000) (hr : r.val = 400 * b.val + i.val) : stored V c (ix3 b i k) = inA V c r k := by
  refine (pay0_4_apply _ 0 i k).trans ?_
  exact blk0_1_apply V c (ptA b) i k r hr

end Anywhere

/-! ## The second kernel's arrays, from buffers that hold the first's -/

section Second

variable (V : Dev nD → Valuation τ sig (Elt Ideal)) (c : Dev nD)
variable (A : Fin 10000 → Fin 10000 → EReal) (f : Fin 10000 → Fin 128 → EReal) (b : Fin 128 → EReal)

/-- The second kernel finds the adjacency in slabs of a thousand rows, the scaled second products, their scales and the second bias. -/
structure Found : Prop where
  adj : ∀ (p : Fin 10) (i : Fin 1000) (k r : Fin 10000), r.val = 1000 * p.val + i.val → V c (Proc.devRef .tc main_v8) (ix3 p i k) = A r k
  fts : ∀ r d, V c (Proc.devRef .tc main_v7_0) (ix2 r d) = f r d * Ideal.div 1 (scale f d)
  scl : ∀ d, V c (Proc.devRef .tc main_v7_2) (ix2 (0 : Fin 1) d) = scale f d
  bias : ∀ d, V c (Proc.devRef .tc main_v5) (ix2 (0 : Fin 1) d) = b d

variable {V c A f b}

/-- Row `i` of point `t`'s block of the node output. -/
theorem Found.block (h : Found V c A f b) (t : Fin cfg1.N) (i : Fin 1000) (d : Fin 128) (r : Fin 10000) (hr : r.val = 1000 * t.val + i.val) :
    k1_pay1 (blk1 V c 0 t) (blk1 V c 1 t) (blk1 V c 2 t) (blk1 V c 3 t) (ix2 i d) = spreadScaled A f b r d := by
  have ht : t.val < 10 := Nat.lt_of_lt_of_eq t.isLt N_1
  rw [blk1_1_eq, blk1_2_eq, blk1_3_eq]
  refine (pay1_1_apply _ _ _ _ i d).trans ?_
  rw [h.scl, h.bias]
  unfold spreadScaled
  refine congrArg (fun z => z * scale f d + b d) (Finset.sum_congr rfl fun k _ => ?_)
  rw [blk1_0_apply V c t 0 i k ⟨t.val, ht⟩ rfl, h.adj ⟨t.val, ht⟩ i k r hr, h.fts]

/-- The node output, entry by entry. -/
theorem Found.nodes (h : Found V c A f b) (r : Fin 10000) (d : Fin 128) : nodes V c (ix2 r d) = spreadScaled A f b r d :=
  h.block (ptR r) (inR r) d r (by show r.val = 1000 * (r.val / 1000) + r.val % 1000; omega)

/-- The column sums before point `n`: over the rows of the points before it. -/
theorem Found.acc (h : Found V c A f b) (d : Fin 128) : ∀ (n : ℕ) (hn : n ≤ 10), acc1 V c n (ix2 (0 : Fin 1) d)
    = ∑ p : Fin n, ∑ i : Fin 1000, spreadScaled A f b ⟨1000 * p.val + i.val, by omega⟩ d
  | 0, _ => by rw [acc1, pay1_2_apply]; rfl
  | n + 1, hn => by
    have hN : n < cfg1.N := by rw [show cfg1.N = 10 from N_1]; omega
    rw [Fin.sum_univ_castSucc]
    refine (congrFun (acc1_succ V c ⟨n, hN⟩) _).trans ?_
    rw [pay1_3_apply]
    refine congrArg₂ (· + ·) (h.acc d n (by omega)) (Finset.sum_congr rfl fun i _ => ?_)
    exact h.block ⟨n, hN⟩ i d _ rfl

/-- All the column sums: over every row. -/
theorem Found.total (h : Found V c A f b) (d : Fin 128) : acc1 V c 10 (ix2 (0 : Fin 1) d) = ∑ r, spreadScaled A f b r d :=
  (h.acc d 10 le_rfl).trans (sum_blocks (fun r => spreadScaled A f b r d) _ fun p i r hr =>
    congrArg (fun r => spreadScaled A f b r d) (Fin.ext hr.symm))

end Second

/-! ## From the launch to the end -/

section Whole

variable (m : (ℓ : Loc nD τ sig) → Buf (Elt Ideal) ℓ) (c : Dev nD)

/-- The features as launched, -/
abbrev arg0 : FVec Ideal S1x10000x128 .f32 := m ((c.tc : Thread nD τ).loc main_arg0)
/-- the adjacency, -/
abbrev arg1 : FVec Ideal S1x10000x10000 .f32 := m ((c.tc : Thread nD τ).loc main_arg1)
/-- the first weights, -/
abbrev arg2 : FVec Ideal S128x128 .f32 := m ((c.tc : Thread nD τ).loc main_arg2)
/-- the first bias, -/
abbrev arg3 : FVec Ideal S128 .f32 := m ((c.tc : Thread nD τ).loc main_arg3)
/-- the slope, -/
abbrev arg4 : FVec Ideal S_ .f32 := m ((c.tc : Thread nD τ).loc main_arg4)
/-- the second weights, -/
abbrev arg5 : FVec Ideal S128x128 .f32 := m ((c.tc : Thread nD τ).loc main_arg5)
/-- and the second bias. -/
abbrev arg6 : FVec Ideal S128 .f32 := m ((c.tc : Thread nD τ).loc main_arg6)

/-- The first kernel finds the features without their unit axis, -/
theorem W1_v0 : W1 m c (Proc.devRef .tc main_v0) = shapeCast S10000x128 (arg0 m c) shapeCasts_S1x10000x128_S10000x128 := by
  unfold W1; after_results; rfl
/-- the adjacency likewise, -/
theorem W1_v1 : W1 m c (Proc.devRef .tc main_v1) = shapeCast S10000x10000 (arg1 m c) shapeCasts_S1x10000x10000_S10000x10000 := by
  unfold W1; after_results; rfl
/-- the first weights transposed, -/
theorem W1_v2 : W1 m c (Proc.devRef .tc main_v2) = transpose S128x128 [1, 0] (arg2 m c) transposes_S128x128_S128x128_1_0 := by
  unfold W1; after_results
/-- the second weights transposed, -/
theorem W1_v3 : W1 m c (Proc.devRef .tc main_v3) = transpose S128x128 [1, 0] (arg5 m c) transposes_S128x128_S128x128_1_0 := by
  unfold W1; after_results
/-- the first bias as a row, -/
theorem W1_v4 : W1 m c (Proc.devRef .tc main_v4) = shapeCast S1x128 (arg3 m c) shapeCasts_S128_S1x128 := by
  unfold W1; after_results; rfl
/-- the second bias as a row, -/
theorem W1_v5 : W1 m c (Proc.devRef .tc main_v5) = shapeCast S1x128 (arg6 m c) shapeCasts_S128_S1x128 := by
  unfold W1; after_results; rfl
/-- and the slope as a one-by-one matrix. -/
theorem W1_v6 : W1 m c (Proc.devRef .tc main_v6) = shapeCast S1x1 (arg4 m c) shapeCasts_S_S1x1 := by
  unfold W1; after_results; rfl

/-- The node output's second products, from the arguments. -/
abbrev argSecond : Fin 10000 → Fin 128 → EReal :=
  second (slab (arg0 m c)) (slab (arg1 m c)) (mat (arg2 m c)) (vec (arg3 m c)) (scal (arg4 m c)) (mat (arg5 m c))

/-- By coordinates, the first kernel's features are the argument's, -/
theorem inX_eq : inX (W1 m) c = slab (arg0 m c) := funext fun r => funext fun k => by
  unfold inX mat; rw [W1_v0, cast_unslab]; rfl
/-- its adjacency is the argument's, -/
theorem inA_eq : inA (W1 m) c = slab (arg1 m c) := funext fun r => funext fun k => by
  unfold inA mat; rw [W1_v1, cast_unslab]; rfl
/-- A transposed matrix reads the matrix at the swapped coordinates. -/
theorem swap_apply (w : FVec Ideal S128x128 .f32) (d k : Fin 128) :
    transpose S128x128 [1, 0] w transposes_S128x128_S128x128_1_0 (ix2 k d) = w (ix2 d k) :=
  transpose_apply _ w _ _ _ fun a => by
    match a with
    | ⟨0, _⟩ => rfl
    | ⟨1, _⟩ => rfl
/-- its first weights are the argument's, -/
theorem inW0_eq : inW0 (W1 m) c = mat (arg2 m c) := funext fun d => funext fun k => by
  unfold inW0 mat; rw [W1_v2, swap_apply]
/-- its second weights are the argument's, -/
theorem inW1_eq : inW1 (W1 m) c = mat (arg5 m c) := funext fun d => funext fun k => by
  unfold inW1 mat; rw [W1_v3, swap_apply]
/-- its first bias is the argument's, -/
theorem inB0_eq : inB0 (W1 m) c = vec (arg3 m c) := funext fun d => by
  unfold inB0 mat; rw [W1_v4, cast_row]; rfl
/-- its slope is the argument's, -/
theorem inS_eq : inS (W1 m) c = scal (arg4 m c) := by
  unfold inS mat; rw [W1_v6]
  refine shapeCast_apply _ _ _ ix0 ?_
  have h1 : ∀ i : Fin S1x1.numel, i.val = 0 := by decide
  have h0 : ∀ i : Fin S_.numel, i.val = 0 := by decide
  exact (h0 _).trans (h1 _).symm
/-- and so its second products are those of the arguments. -/
theorem inSecond_eq : inSecond (W1 m) c = argSecond m c := by
  unfold inSecond
  rw [inX_eq, inA_eq, inW0_eq, inW1_eq, inB0_eq, inS_eq]

/-- The first kernel leaves the scaled second products, -/
theorem W2_v7_0 : W2 m c (Proc.devRef .tc main_v7_0) = k0_pay7 (hid (W1 m) c) (blk0 (W1 m) c 5 p0) :=
  (Pipeline.afterRegion_arr (dat0 (W1 m) c) (W1 m c) launch0.win.arr_inj 6).trans (final0_6 (W1 m) c)
/-- the stored adjacency, -/
theorem W2_v7_1 : W2 m c (Proc.devRef .tc main_v7_1) = stored (W1 m) c :=
  (Pipeline.afterRegion_arr (dat0 (W1 m) c) (W1 m c) launch0.win.arr_inj 7).trans (final0_7 (W1 m) c)
/-- and the scales, -/
theorem W2_v7_2 : W2 m c (Proc.devRef .tc main_v7_2) = k0_pay6 (hid (W1 m) c) (blk0 (W1 m) c 5 p0) :=
  (Pipeline.afterRegion_arr (dat0 (W1 m) c) (W1 m c) launch0.win.arr_inj 8).trans (final0_8 (W1 m) c)
/-- and it leaves the second bias alone. -/
theorem W2_v5 : W2 m c (Proc.devRef .tc main_v5) = W1 m c (Proc.devRef .tc main_v5) :=
  Pipeline.afterRegion_of_not_arr (dat0 (W1 m) c) (W1 m c) (by decide)

/-- The reshape between the kernels leaves every other buffer. -/
theorem W3_kept (r : Ref sig .tc) (h : r ∉ hostOps1_W) : W3 m c (Proc.devRef .tc r) = W2 m c (Proc.devRef .tc r) :=
  StableHlo.after_of_writes_sub hostOps1 _ hostOps1_writes h
/-- The reshape between the kernels regroups the stored adjacency's slabs. -/
theorem W3_v8 : W3 m c (Proc.devRef .tc main_v8) = shapeCast S10x1000x10000 (stored (W1 m) c) shapeCasts_S25x400x10000_S10x1000x10000 := by
  have h : W3 m c (Proc.devRef .tc main_v8) = shapeCast S10x1000x10000 (W2 m c (Proc.devRef .tc main_v7_1)) shapeCasts_S25x400x10000_S10x1000x10000 := by
    unfold W3; after_results; rfl
  rw [h, W2_v7_1]

/-- What the second kernel finds, from the arguments. -/
theorem found : Found (W3 m) c (slab (arg1 m c)) (argSecond m c) (vec (arg6 m c)) where
  adj p i k r hr := by
    rw [W3_v8]
    refine (shapeCast_apply _ _ _ (ix3 (⟨r.val / 400, by omega⟩ : Fin 25) (⟨r.val % 400, by omega⟩ : Fin 400) k) ?_).trans ?_
    · rw [Shape.rowMajor_val_three, Shape.rowMajor_val_three]
      show (r.val / 400 * 400 + r.val % 400) * 10000 + k.val = (p.val * 1000 + i.val) * 10000 + k.val
      omega
    · rw [stored_apply (W1 m) c _ _ k r (by show r.val = 400 * (r.val / 400) + r.val % 400; omega), inA_eq]
  fts r d := by
    rw [W3_kept m c main_v7_0 (by decide), W2_v7_0, scaled_apply, inSecond_eq]
  scl d := by
    rw [W3_kept m c main_v7_2 (by decide), W2_v7_2, scale_apply, inSecond_eq]
  bias d := by
    rw [W3_kept m c main_v5 (by decide), W2_v5, W1_v5, cast_row]
    rfl

/-- The first result, entry by entry. -/
theorem result0 (u : Fin 1) (r : Fin 10000) (d : Fin 128) :
    W5 m c (Proc.devRef .tc main_v10) (ix3 u r d) = spreadScaled (slab (arg1 m c)) (argSecond m c) (vec (arg6 m c)) r d := by
  have h : W5 m c (Proc.devRef .tc main_v10) = shapeCast S1x10000x128 (W4 m c (Proc.devRef .tc main_v9_0)) shapeCasts_S10000x128_S1x10000x128 := by
    unfold W5; after_results; rfl
  have h4 : W4 m c (Proc.devRef .tc main_v9_0) = nodes (W3 m) c :=
    (Pipeline.afterRegion_arr (dat1 (W3 m) c) (W3 m c) launch1.win.arr_inj 4).trans (final1_4 (W3 m) c)
  rw [h, h4, cast_slab]
  exact (found m c).nodes r d

/-- The second result, entry by entry. -/
theorem result1 (d : Fin 128) : W5 m c (Proc.devRef .tc main_v9_1) (ix2 (0 : Fin 1) d)
    = Ideal.logistic ((∑ r, spreadScaled (slab (arg1 m c)) (argSecond m c) (vec (arg6 m c)) r d) * ((1 / 10000 : ℝ) : EReal)) := by
  have h : W5 m c (Proc.devRef .tc main_v9_1) = W4 m c (Proc.devRef .tc main_v9_1) :=
    StableHlo.after_of_writes_sub hostOps2 _ hostOps2_writes (by decide)
  have h4 : W4 m c (Proc.devRef .tc main_v9_1) = k1_pay4 (acc1 (W3 m) c 10) :=
    (Pipeline.afterRegion_arr (dat1 (W3 m) c) (W3 m c) launch1.win.arr_inj 5).trans (final1_5 (W3 m) c)
  rw [h, h4, pay1_4_apply, (found m c).total d]

end Whole

end Cert.KernelIdeal.Hand

end
-- ==== Proof.Ref.lean ====
module

public import proofs.«01_k».proof.Proof.Math
public import proofs.«01_k».proof.Proof.Gen.ReferenceIdeal.Run
public import Idealize.ShloMosaic.Lib.MatmulPlain
public import Idealize.ShloMosaic.Lib.StackMember
public import Idealize.ShloMosaic.Lib.Pipeline.Value
public import Idealize.ShloMosaic.Lib.Quiescent

@[expose] public section

set_option maxRecDepth 16384

noncomputable section

namespace Cert.ReferenceIdeal.Hand

open Cert.ReferenceIdeal Cert.ReferenceIdeal.Facts₀ Cert.Hand
open Idealize.ShloMosaic Idealize.ShloMosaic.TcCoe
open Idealize.ShloMosaic.ValueIdx
open Idealize.SL.Sem

/-- The reference's product of the rows with a transposed weight matrix. -/
abbrev products (x : FVec Ideal S1x10000x128 .f32) (w : FVec Ideal S128x128 .f32) : FVec Ideal S1x10000x128 .f32 :=
  Host.dotGeneral dot_S1x10000x128_S128x128_S1x10000x128_2_0_01_1_n_n none x (transpose S128x128 [1, 0] w transposes_S128x128_S128x128_1_0)

/-- The reference's propagation along the graph. -/
abbrev layer (a : FVec Ideal S1x10000x10000 .f32) (f : FVec Ideal S1x10000x128 .f32) (b : FVec Ideal S128 .f32) : FVec Ideal S1x10000x128 .f32 :=
  addf (broadcastInDim S1x10000x128 ![1, 2] bcast_S10000x128_S1x10000x128_1_2
      (Host.dotGeneral (φ₁ := .f32) (φ₂ := .f32) dot_S10000x10000_S10000x128_S10000x128_1_0_0_1_n_n none (shapeCast S10000x10000 a shapeCasts_S1x10000x10000_S10000x10000)
        (shapeCast S10000x128 f shapeCasts_S1x10000x128_S10000x128)))
    (broadcastInDim S1x10000x128 ![0, 1, 2] bcast_S1x1x128_S1x10000x128_0_1_2 (broadcastInDim S1x1x128 ![2] bcast_S128_S1x1x128_2 b))

/-- The reference's rectifier. -/
abbrev rectified (s : FVec Ideal S_ .f32) (h : FVec Ideal S1x10000x128 .f32) : FVec Ideal S1x10000x128 .f32 :=
  select (cmpf .oge h (broadcastInDim S1x10000x128 ![] bcast_S_S1x10000x128 (constant S_ .f32 0x00000000#32))) h
    (mulf (broadcastInDim S1x10000x128 ![] bcast_S_S1x10000x128 s) h)

/-- The reference's logistic function of the mean over the rows. -/
abbrev summary (o : FVec Ideal S1x10000x128 .f32) : FVec Ideal S1x128 .f32 :=
  Host.divf (broadcastInDim S1x128 ![] bcast_S_S1x128 (constant S_ .f32 0x3F800000#32))
    (addf (broadcastInDim S1x128 ![] bcast_S_S1x128 (constant S_ .f32 0x3F800000#32))
      (Host.exp (Host.negf (Host.divf (Host.reduceAdd o (constant S_ .f32 0x00000000#32) reducesTo_S1x10000x128_S1x128_d1 h_S_)
        (broadcastInDim S1x128 ![] bcast_S_S1x128 (constant S_ .f32 0x461C4000#32))))))

/-- The products, entry by entry. -/
theorem products_apply (x : FVec Ideal S1x10000x128 .f32) (w : FVec Ideal S128x128 .f32) (u : Fin 1) (r : Fin 10000) (d : Fin 128) :
    products x w (ix3 u r d) = times (slab x) (mat w) r d := by
  obtain rfl : u = 0 := Subsingleton.elim _ _
  show FloatOps.dotGeneral _ _ _ _ _ _ = _
  rw [Ideal.dotGeneral_apply, ← Equiv.sum_comp (contrEquiv1 dot_S1x10000x128_S128x128_S1x10000x128_2_0_01_1_n_n 128 rfl rfl).symm]
  refine Finset.sum_congr rfl fun k _ => ?_
  have hk := contrEquiv1_symm_val dot_S1x10000x128_S128x128_S1x10000x128_2_0_01_1_n_n 128 rfl rfl k
  refine congrArg₂ (· * ·) (congrArg x (funext fun a => Fin.ext ?_)) ?_
  · match a with
    | ⟨0, _⟩ => rfl
    | ⟨1, _⟩ => rfl
    | ⟨2, _⟩ => exact hk
  · refine transpose_apply _ w _ _ _ fun a => ?_
    match a with
    | ⟨0, _⟩ => exact hk
    | ⟨1, _⟩ => rfl

/-- A matrix with its unit leading axis cast away reads the matrix. -/
theorem cast_off {α : Type} {M N : ℕ} (x : (⟨3, ![1, M, N]⟩ : Shape).Idx → α) (h : (⟨3, ![1, M, N]⟩ : Shape).ShapeCasts ⟨2, ![M, N]⟩)
    (r : Fin M) (d : Fin N) : shapeCast ⟨2, ![M, N]⟩ x h (ix2 r d) = x (ix3 (0 : Fin 1) r d) :=
  shapeCast_apply x h _ _ (by
    rw [Shape.rowMajor_val_three, Shape.rowMajor_val_two]
    show (0 * M + r.val) * N + d.val = r.val * N + d.val
    rw [Nat.zero_mul, Nat.zero_add])

/-- The propagation, entry by entry. -/
theorem layer_apply (a : FVec Ideal S1x10000x10000 .f32) (f : FVec Ideal S1x10000x128 .f32) (b : FVec Ideal S128 .f32)
    (u : Fin 1) (r : Fin 10000) (d : Fin 128) : layer a f b (ix3 u r d) = spread (slab a) (slab f) (vec b) r d := by
  show _ + _ = _
  rw [broadcastInDim_apply _ _ _ _ (ix2 r d) (fun a => by
    match a with
    | ⟨0, _⟩ => rfl
    | ⟨1, _⟩ => rfl)]
  rw [broadcastInDim_apply _ _ _ (ix3 u r d) (ix3 (0 : Fin 1) (0 : Fin 1) d) (fun a => by
    match a with
    | ⟨0, _⟩ => rfl
    | ⟨1, _⟩ => rfl
    | ⟨2, _⟩ => rfl)]
  rw [broadcastInDim_apply _ _ b _ (ix1 d) (fun a => by
    match a with
    | ⟨0, _⟩ => rfl)]
  refine congrArg (· + vec b d) ?_
  refine (StackMember.dotGeneral_plain_apply none _ _ r d).trans (Finset.sum_congr rfl fun k _ => ?_)
  rw [cast_off, cast_off]
  rfl

/-- The rectifier, entry by entry. -/
theorem rectified_apply (s : FVec Ideal S_ .f32) (h : FVec Ideal S1x10000x128 .f32) (j : S1x10000x128.Idx) :
    rectified s h j = leaky (scal s) (h j) := by
  unfold rectified leaky
  rw [select_apply, mulf_apply, cmpf_apply, broadcastInDim_scalar_apply, broadcastInDim_scalar_apply]
  rw [constant_apply, Ideal.ofBits_zero_f32]
  rfl

/-- The summary, entry by entry. -/
theorem summary_apply (o : FVec Ideal S1x10000x128 .f32) (u : Fin 1) (d : Fin 128) :
    summary o (ix2 u d) = Ideal.logistic ((∑ r, slab o r d) * ((1 / 10000 : ℝ) : EReal)) := by
  obtain rfl : u = 0 := Subsingleton.elim _ _
  have h1 : broadcastInDim S1x128 ![] bcast_S_S1x128 (constant (F := Ideal) S_ .f32 0x3F800000#32) (ix2 (0 : Fin 1) d) = (1 : EReal) := by
    rw [broadcastInDim_scalar_apply, constant_apply, Ideal.ofBits_one_f32]
  have hN : broadcastInDim S1x128 ![] bcast_S_S1x128 (constant (F := Ideal) S_ .f32 0x461C4000#32) (ix2 (0 : Fin 1) d) = ((10000 : ℝ) : EReal) := by
    rw [broadcastInDim_scalar_apply, constant_apply, Cert.Hand.count]
  have hs : Host.reduceAdd o (constant S_ .f32 0x00000000#32) reducesTo_S1x10000x128_S1x128_d1 h_S_ (ix2 (0 : Fin 1) d) = ∑ r, slab o r d := by
    rw [hostReduceAdd_apply, Ideal.hostReduceAdd_single _ (show S1x10000x128.Reduces [1] S1x128 by decide), constant_apply, Ideal.ofBits_zero_f32, zero_add]
    refine Finset.sum_congr rfl fun r _ => congrArg o (funext fun a => Fin.ext ?_)
    match a with
    | ⟨0, _⟩ => rfl
    | ⟨1, _⟩ => rfl
    | ⟨2, _⟩ => rfl
  show Ideal.div _ (_ + Ideal.exp (-(Ideal.div _ _))) = _
  rw [h1, hN, hs, Ideal.div_coe (by norm_num)]
  rfl

/-- The reference's node output from the arguments. -/
abbrev refNodes (x : FVec Ideal S1x10000x128 .f32) (a : FVec Ideal S1x10000x10000 .f32) (w0 : FVec Ideal S128x128 .f32) (b0 : FVec Ideal S128 .f32)
    (s : FVec Ideal S_ .f32) (w1 : FVec Ideal S128x128 .f32) (b1 : FVec Ideal S128 .f32) : FVec Ideal S1x10000x128 .f32 :=
  layer a (products (rectified s (layer a (products x w0) b0)) w1) b1

/-- The node output, entry by entry. -/
theorem refNodes_apply (x : FVec Ideal S1x10000x128 .f32) (a : FVec Ideal S1x10000x10000 .f32) (w0 : FVec Ideal S128x128 .f32) (b0 : FVec Ideal S128 .f32)
    (s : FVec Ideal S_ .f32) (w1 : FVec Ideal S128x128 .f32) (b1 : FVec Ideal S128 .f32) (u : Fin 1) (r : Fin 10000) (d : Fin 128) :
    refNodes x a w0 b0 s w1 b1 (ix3 u r d)
      = spread (slab a) (second (slab x) (slab a) (mat w0) (vec b0) (scal s) (mat w1)) (vec b1) r d := by
  have h0 : slab (products x w0) = times (slab x) (mat w0) := funext fun r => funext fun d => products_apply x w0 0 r d
  have h1 : slab (rectified s (layer a (products x w0) b0)) = fun r d => leaky (scal s) (spread (slab a) (times (slab x) (mat w0)) (vec b0) r d) :=
    funext fun r => funext fun d => by
      show rectified s (layer a (products x w0) b0) (ix3 0 r d) = _
      rw [rectified_apply, layer_apply, h0]
  have h2 : slab (products (rectified s (layer a (products x w0) b0)) w1) = second (slab x) (slab a) (mat w0) (vec b0) (scal s) (mat w1) :=
    funext fun r => funext fun d => (products_apply _ w1 0 r d).trans (by rw [h1]; rfl)
  rw [refNodes, layer_apply, h2]

/-- Every execution of the reference ends, with the node output and its summary as read above and every argument as launched. -/
theorem run_results (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v22) = refNodes (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6))
      ∧ r.2.mem ((c.tc : Thread nD τ).loc main_v31) = summary (refNodes (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.ReferenceIdeal.Value.run m ρ

end Cert.ReferenceIdeal.Hand

end
-- ==== Proof.lean ====
module

public import proofs.«01_k».proof.Defs
public import proofs.«01_k».proof.Proof.Bits
public import proofs.«01_k».proof.Proof.Value
public import proofs.«01_k».proof.Proof.Ref

@[expose] public section

set_option maxRecDepth 16384

noncomputable section

namespace Cert.Proof

open Idealize.ShloMosaic Idealize.ShloMosaic.TcCoe Idealize.ShloMosaic.ValueIdx Idealize.SL.Sem Cert.Hand

/-- The precondition's side conditions. -/
theorem preFacts : Cert.Pre_finite_inputs.Facts where
  bcast_S_S1x10000x128 := by decide
  bcast_S_S1x10000x10000 := by decide
  bcast_S_S128x128 := by decide
  bcast_S_S128 := by decide

/-- The ideal form's frame. -/
theorem frame_ideal : Cert.quiescent_KernelIdeal (hKernelIdeal := Cert.KernelIdeal.Gen.facts) :=
  fun m ρ _ => Cert.KernelIdeal.Hand.run_args m ρ

/-- The same on finite inputs. -/
theorem frame_ideal_pre :
    Cert.quiescent_KernelIdeal_pre_finite_inputs (hKernelIdeal := Cert.KernelIdeal.Gen.facts) (hPre_finite_inputs := preFacts) :=
  fun m ρ _ => Cert.KernelIdeal.Hand.run_args m ρ

/-- The reference's frame. -/
theorem frame_reference : Cert.quiescent_ReferenceIdeal (hReferenceIdeal := Cert.ReferenceIdeal.Gen.facts) :=
  fun m ρ _ => (θ_run Cert.ReferenceIdeal.defs _ _).mono (fun r h => ⟨fun c => (h c).2.2, sem_eq_zero_of_no_sems (by decide) r.2⟩)
    (Cert.ReferenceIdeal.Value.run m ρ)

/-- The same on finite inputs. -/
theorem frame_reference_pre :
    Cert.quiescent_ReferenceIdeal_pre_finite_inputs (hReferenceIdeal := Cert.ReferenceIdeal.Gen.facts) (hPre_finite_inputs := preFacts) :=
  fun m ρ _ => frame_reference m ρ trivial

/-- The ideal form names one constant, a ten-thousandth, which the kernel holds rounded. -/
theorem preserves : Cert.preserves_Kernel_KernelIdeal :=
  IdealRules.named_const.statement Cert.KernelIdeal.κ "inv_n" .f32 0x38D1B717#32 ((1 / 10000 : ℝ) : EReal) rfl

/-! ## Finite inputs -/

/-- A value of magnitude below infinity is a real number. -/
theorem finite_of_lt (z : EReal) (h : Ideal.cmp .olt (max z (-z)) (Ideal.ofBits .f32 0x7F800000#32) = 1#1) : Finite z := by
  have ht : Ideal.ofBits .f32 0x7F800000#32 = ⊤ := by simp [Ideal.ofBits, Ideal.ieee]
  rw [ht] at h
  induction z with
  | bot => simp [Ideal.cmp] at h
  | top => simp [Ideal.cmp] at h
  | coe r => exact ⟨r, rfl⟩

section Pre

variable (m : (ℓ : Loc Cert.KernelIdeal.nD Cert.KernelIdeal.τ Cert.KernelIdeal.sig) → Buf (Elt Ideal) ℓ)
variable (h : Cert.Pre_KernelIdeal_finite_inputs (hPre_finite_inputs := preFacts) m) (c : Dev Cert.KernelIdeal.nD)

open Cert.KernelIdeal.Hand

include h

/-- On finite inputs every feature is a real number, -/
theorem finite0 (r : Fin 10000) (k : Fin 128) : Finite (slab (arg0 m c) r k) :=
  finite_of_lt _ (congrFun (h c).1 (ix3 (0 : Fin 1) r k))
/-- every entry of the adjacency, -/
theorem finite1 (r k : Fin 10000) : Finite (slab (arg1 m c) r k) :=
  finite_of_lt _ (congrFun (h c).2.1 (ix3 (0 : Fin 1) r k))
/-- of the first weights, -/
theorem finite2 (d k : Fin 128) : Finite (mat (arg2 m c) d k) :=
  finite_of_lt _ (congrFun (h c).2.2.1 (ix2 d k))
/-- of the first bias, -/
theorem finite3 (d : Fin 128) : Finite (vec (arg3 m c) d) :=
  finite_of_lt _ (congrFun (h c).2.2.2.1 (ix1 d))
/-- the slope, -/
theorem finite4 : Finite (scal (arg4 m c)) :=
  finite_of_lt _ (congrFun (h c).2.2.2.2.1 ix0)
/-- and every entry of the second weights. -/
theorem finite5 (d k : Fin 128) : Finite (mat (arg5 m c) d k) :=
  finite_of_lt _ (congrFun (h c).2.2.2.2.2 (ix2 d k))

/-- On finite inputs the kernel's scaled propagation is the plain one. -/
theorem plain (r : Fin 10000) (d : Fin 128) : spreadScaled (slab (arg1 m c)) (argSecond m c) (vec (arg6 m c)) r d
    = spread (slab (arg1 m c)) (argSecond m c) (vec (arg6 m c)) r d :=
  spreadScaled_eq (finite1 m h c)
    (Finite.second (finite0 m h c) (finite1 m h c) (finite2 m h c) (finite3 m h c) (finite4 m h c) (finite5 m h c)) r d

/-- The kernel's node output is the reference's. -/
theorem nodes_agree : W5 m c (Proc.devRef .tc Cert.KernelIdeal.main_v10)
    = Cert.ReferenceIdeal.Hand.refNodes (arg0 m c) (arg1 m c) (arg2 m c) (arg3 m c) (arg4 m c) (arg5 m c) (arg6 m c) := by
  funext y
  rw [eq_ix3 y]
  exact (result0 m c _ _ _).trans ((plain m h c _ _).trans (Cert.ReferenceIdeal.Hand.refNodes_apply _ _ _ _ _ _ _ _ _ _).symm)

/-- The kernel's summary is the reference's. -/
theorem summary_agree : W5 m c (Proc.devRef .tc Cert.KernelIdeal.main_v9_1) = Cert.ReferenceIdeal.Hand.summary
    (Cert.ReferenceIdeal.Hand.refNodes (arg0 m c) (arg1 m c) (arg2 m c) (arg3 m c) (arg4 m c) (arg5 m c) (arg6 m c)) := by
  have key : ∀ (u : Fin 1) (d : Fin 128), W5 m c (Proc.devRef .tc Cert.KernelIdeal.main_v9_1) (ix2 u d) = Cert.ReferenceIdeal.Hand.summary
      (Cert.ReferenceIdeal.Hand.refNodes (arg0 m c) (arg1 m c) (arg2 m c) (arg3 m c) (arg4 m c) (arg5 m c) (arg6 m c)) (ix2 u d) := fun u d => by
    obtain rfl : u = 0 := Subsingleton.elim _ _
    refine (result1 m c d).trans (Eq.trans ?_ (Cert.ReferenceIdeal.Hand.summary_apply _ 0 d).symm)
    refine congrArg (fun z => Ideal.logistic (z * ((1 / 10000 : ℝ) : EReal))) (Finset.sum_congr rfl fun r _ => ?_)
    exact (plain m h c r d).trans (Cert.ReferenceIdeal.Hand.refNodes_apply _ _ _ _ _ _ _ 0 r d).symm
  funext y
  rw [eq_ix2 y]
  exact key _ _

end Pre

/-- On finite inputs the ideal form and the reference end with the same two results. -/
theorem agree : Cert.algebraic_KernelIdeal_ReferenceIdeal_pre_finite_inputs (hKernelIdeal := Cert.KernelIdeal.Gen.facts)
    (hReferenceIdeal := Cert.ReferenceIdeal.Gen.facts) (hPre_finite_inputs := preFacts) := by
  intro m ρ m' ρ' hpre hm
  refine ⟨fun c => Cert.KernelIdeal.Hand.W5 m c (Proc.devRef .tc Cert.KernelIdeal.main_v10),
    fun c => Cert.KernelIdeal.Hand.W5 m c (Proc.devRef .tc Cert.KernelIdeal.main_v9_1),
    (θ_run _ _ _).mono (fun r h c => h.1 c) (Cert.KernelIdeal.Hand.run_results m ρ),
    (θ_run _ _ _).mono (fun r h c => ?_) (Cert.ReferenceIdeal.Hand.run_results m' ρ')⟩
  obtain ⟨h0, h1, hrest⟩ := h c
  obtain ⟨e0, e1, e2, e3, e4, e5, e6⟩ := hm c
  rw [e0, e1, e2, e3, e4, e5, e6] at h0 h1
  exact ⟨h0.trans (nodes_agree m hpre c).symm, h1.trans (summary_agree m hpre c).symm, hrest⟩

/-- Everything claimed. -/
theorem claim : Cert.Claim := ⟨Cert.Kernel.Gen.facts, Cert.KernelIdeal.Gen.facts, Cert.ReferenceIdeal.Gen.facts, preFacts,
  Cert.Kernel.Hand.frame, frame_ideal, frame_ideal_pre, frame_reference, frame_reference_pre, preserves, agree⟩

end Cert.Proof

end
